-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200x9 : Shape := ⟨3, ![16384, 200, 9]⟩
abbrev S9x200x16384 : Shape := ⟨3, ![9, 200, 16384]⟩
abbrev S200x1x16384 : Shape := ⟨3, ![200, 1, 16384]⟩
abbrev S200x4x16384 : Shape := ⟨3, ![200, 4, 16384]⟩
abbrev S4x8192 : Shape := ⟨2, ![4, 8192]⟩
abbrev S8x1024 : Shape := ⟨2, ![8, 1024]⟩
abbrev S_ : Shape := ⟨0, ![]⟩
abbrev S4x1x8192 : Shape := ⟨3, ![4, 1, 8192]⟩
abbrev S1x4x8192 : Shape := ⟨3, ![1, 4, 8192]⟩
abbrev S1x8x1024 : Shape := ⟨3, ![1, 8, 1024]⟩
abbrev S8x1x1024 : Shape := ⟨3, ![8, 1, 1024]⟩
abbrev S16 : Shape := ⟨1, ![16]⟩
abbrev S1x16 : Shape := ⟨2, ![1, 16]⟩
abbrev S3x200x16384 : Shape := ⟨3, ![3, 200, 16384]⟩
abbrev S1x8x16384 : Shape := ⟨3, ![1, 8, 16384]⟩
abbrev S16384x200x1 : Shape := ⟨3, ![16384, 200, 1]⟩
abbrev S16384x200x4 : Shape := ⟨3, ![16384, 200, 4]⟩
abbrev S16384x200x3 : Shape := ⟨3, ![16384, 200, 3]⟩

abbrev nBuf : Table → Nat
  | .hbm => 10
  | .local .tc .vmem => 4
  | .local .scVector .vmem => 6
  | _ => 0

abbrev bufTy : (tb : Table) → Fin (nBuf tb) → BufTy
  | .hbm, ⟨0, _⟩ => ⟨S16384x200x9, .f32⟩
  | .hbm, ⟨1, _⟩ => ⟨S9x200x16384, .f32⟩
  | .hbm, ⟨2, _⟩ => ⟨S200x1x16384, .i32⟩
  | .hbm, ⟨3, _⟩ => ⟨S200x4x16384, .f32⟩
  | .hbm, ⟨4, _⟩ => ⟨S200x1x16384, .i32⟩
  | .hbm, ⟨5, _⟩ => ⟨S3x200x16384, .f32⟩
  | .hbm, ⟨6, _⟩ => ⟨S16384x200x1, .i32⟩
  | .hbm, ⟨7, _⟩ => ⟨S16384x200x4, .f32⟩
  | .hbm, ⟨8, _⟩ => ⟨S16384x200x1, .i32⟩
  | .hbm, ⟨9, _⟩ => ⟨S16384x200x3, .f32⟩
  | .local .tc .vmem, ⟨0, _⟩ => ⟨S1x8x16384, .f32⟩
  | .local .tc .vmem, ⟨1, _⟩ => ⟨S1x8x16384, .f32⟩
  | .local .tc .vmem, ⟨2, _⟩ => ⟨S1x8x16384, .f32⟩
  | .local .tc .vmem, ⟨3, _⟩ => ⟨S1x8x16384, .f32⟩
  | .local .scVector .vmem, ⟨0, _⟩ => ⟨S4x8192, .f32⟩
  | .local .scVector .vmem, ⟨1, _⟩ => ⟨S4x8192, .f32⟩
  | .local .scVector .vmem, ⟨2, _⟩ => ⟨S8x1024, .f32⟩
  | .local .scVector .vmem, ⟨3, _⟩ => ⟨S8x1024, .f32⟩
  | .local .scVector .vmem, ⟨4, _⟩ => ⟨S8x1024, .i32⟩
  | .local .scVector .vmem, ⟨5, _⟩ => ⟨S8x1024, .i32⟩
  | _, _ => ⟨S16384x200x9, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev main_v1_2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 8
abbrev cc1_sem0_1 : DmaSem sig := 9
abbrev cc1_sem1_0 : DmaSem sig := 10
abbrev cc1_sem1_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let c25_i32 : BitVec 32 := 25#32
  let v2 : BitVec 32 := Scalar.muli v1 c25_i32
  let c1_i32 : BitVec 32 := 1#32
  let v3 : BitVec 32 := Scalar.shrsi v2 c1_i32
  let v7 : BitVec 1 := Scalar.cmpi .sgt v6 v3
  let v8 : BitVec 32 := Scalar.extui v7
  let c0_i32 : BitVec 32 := 0#32
  let v9 : BitVec 1 := Scalar.cmpi .ne v8 c0_i32
  v9

def k0_off1 (i : grid0.Coords) : Fin 3 → Nat :=
  let c1_i32_8 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_6 : BitVec 32 := 1#32
  let v16 : BitVec 32 := Scalar.shrsi v3 c1_i32_6
  let c1_i32_7 : BitVec 32 := 1#32
  let v17 : BitVec 32 := Scalar.andi v3 c1_i32_7
  let c8192_i32 : BitVec 32 := 8192#32
  let v18 : BitVec 32 := Scalar.muli v17 c8192_i32
  ![1, v16.toNat, v18.toNat]
@[reducible] def k0_t1_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_12 : BitVec 32 := 1#32
  ⟨v3, v27, c1_i32_12⟩
def k0_cond2 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let v40 : BitVec 32 := Scalar.subi arg20 v3
  let c1_i32_22 : BitVec 32 := 1#32
  let v41 : BitVec 32 := Scalar.andi v40 c1_i32_22
  let c0_i32_23 : BitVec 32 := 0#32
  let v42 : BitVec 1 := Scalar.cmpi .eq v41 c0_i32_23
  let v43 : BitVec 32 := Scalar.extui v42
  let c0_i32_24 : BitVec 32 := 0#32
  let v44 : BitVec 1 := Scalar.cmpi .ne v43 c0_i32_24
  v44

def k0_off2 (i : grid0.Coords) (k0_t1 : Fin (k0_t1_loop i).trips) : Fin 3 → Nat :=
  let c1_i32_31 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_28 : BitVec 32 := 1#32
  let v50 : BitVec 32 := Scalar.shrsi arg20 c1_i32_28
  let c1_i32_29 : BitVec 32 := 1#32
  let v51 : BitVec 32 := Scalar.andi arg20 c1_i32_29
  let c8192_i32_30 : BitVec 32 := 8192#32
  let v52 : BitVec 32 := Scalar.muli v51 c8192_i32_30
  ![1, v50.toNat, v52.toNat]
def k0_cond3 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let v57 : BitVec 1 := Scalar.cmpi .sgt arg20 v3
  let v58 : BitVec 32 := Scalar.extui v57
  let c0_i32_33 : BitVec 32 := 0#32
  let v59 : BitVec 1 := Scalar.cmpi .ne v58 c0_i32_33
  v59

def k0_off3 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_41 : BitVec 32 := 1#32
  let v71 : BitVec 32 := Scalar.subi arg20 c1_i32_41
  let c1_i32_42 : BitVec 32 := 1#32
  let v72 : BitVec 32 := Scalar.shrsi v71 c1_i32_42
  let c0_i32_45 : BitVec 32 := 0#32
  let c1_i32_43 : BitVec 32 := 1#32
  let v73 : BitVec 32 := Scalar.andi v71 c1_i32_43
  let c8192_i32_44 : BitVec 32 := 8192#32
  let v74 : BitVec 32 := Scalar.muli v73 c8192_i32_44
  ![v72.toNat, 0, v74.toNat]
def k0_cond4 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_34 : BitVec 32 := 1#32
  let v60 : BitVec 32 := Scalar.addi arg20 c1_i32_34
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v61 : BitVec 1 := Scalar.cmpi .slt v60 v6
  let v62 : BitVec 32 := Scalar.extui v61
  let c0_i32_35 : BitVec 32 := 0#32
  let v63 : BitVec 1 := Scalar.cmpi .ne v62 c0_i32_35
  v63

def k0_off4 (i : grid0.Coords) (k0_t1 : Fin (k0_t1_loop i).trips) : Fin 3 → Nat :=
  let c1_i32_45 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_41 : BitVec 32 := 1#32
  let v71 : BitVec 32 := Scalar.addi arg20 c1_i32_41
  let c1_i32_42 : BitVec 32 := 1#32
  let v72 : BitVec 32 := Scalar.shrsi v71 c1_i32_42
  let c1_i32_43 : BitVec 32 := 1#32
  let v73 : BitVec 32 := Scalar.andi v71 c1_i32_43
  let c8192_i32_44 : BitVec 32 := 8192#32
  let v74 : BitVec 32 := Scalar.muli v73 c8192_i32_44
  ![1, v72.toNat, v74.toNat]
def k0_off5 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_36 : BitVec 32 := 1#32
  let v64 : BitVec 32 := Scalar.shrsi arg20 c1_i32_36
  let c0_i32_39 : BitVec 32 := 0#32
  let c1_i32_37 : BitVec 32 := 1#32
  let v65 : BitVec 32 := Scalar.andi arg20 c1_i32_37
  let c8192_i32_38 : BitVec 32 := 8192#32
  let v66 : BitVec 32 := Scalar.muli v65 c8192_i32_38
  ![v64.toNat, 0, v66.toNat]
def k0_cond5 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let v45 : BitVec 32 := Scalar.subi arg20 v3
  let c1_i32_25 : BitVec 32 := 1#32
  let v46 : BitVec 32 := Scalar.andi v45 c1_i32_25
  let c1_i32_26 : BitVec 32 := 1#32
  let v47 : BitVec 1 := Scalar.cmpi .eq v46 c1_i32_26
  let v48 : BitVec 32 := Scalar.extui v47
  let c0_i32_27 : BitVec 32 := 0#32
  let v49 : BitVec 1 := Scalar.cmpi .ne v48 c0_i32_27
  v49

def k0_off6 (i : grid0.Coords) (k0_t1 : Fin (k0_t1_loop i).trips) : Fin 3 → Nat :=
  let c1_i32_31 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_28 : BitVec 32 := 1#32
  let v50 : BitVec 32 := Scalar.shrsi arg20 c1_i32_28
  let c1_i32_29 : BitVec 32 := 1#32
  let v51 : BitVec 32 := Scalar.andi arg20 c1_i32_29
  let c8192_i32_30 : BitVec 32 := 8192#32
  let v52 : BitVec 32 := Scalar.muli v51 c8192_i32_30
  ![1, v50.toNat, v52.toNat]
def k0_cond6 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let v57 : BitVec 1 := Scalar.cmpi .sgt arg20 v3
  let v58 : BitVec 32 := Scalar.extui v57
  let c0_i32_33 : BitVec 32 := 0#32
  let v59 : BitVec 1 := Scalar.cmpi .ne v58 c0_i32_33
  v59

def k0_off7 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_41 : BitVec 32 := 1#32
  let v71 : BitVec 32 := Scalar.subi arg20 c1_i32_41
  let c1_i32_42 : BitVec 32 := 1#32
  let v72 : BitVec 32 := Scalar.shrsi v71 c1_i32_42
  let c0_i32_45 : BitVec 32 := 0#32
  let c1_i32_43 : BitVec 32 := 1#32
  let v73 : BitVec 32 := Scalar.andi v71 c1_i32_43
  let c8192_i32_44 : BitVec 32 := 8192#32
  let v74 : BitVec 32 := Scalar.muli v73 c8192_i32_44
  ![v72.toNat, 0, v74.toNat]
def k0_cond7 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_34 : BitVec 32 := 1#32
  let v60 : BitVec 32 := Scalar.addi arg20 c1_i32_34
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v61 : BitVec 1 := Scalar.cmpi .slt v60 v6
  let v62 : BitVec 32 := Scalar.extui v61
  let c0_i32_35 : BitVec 32 := 0#32
  let v63 : BitVec 1 := Scalar.cmpi .ne v62 c0_i32_35
  v63

def k0_off8 (i : grid0.Coords) (k0_t1 : Fin (k0_t1_loop i).trips) : Fin 3 → Nat :=
  let c1_i32_45 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_41 : BitVec 32 := 1#32
  let v71 : BitVec 32 := Scalar.addi arg20 c1_i32_41
  let c1_i32_42 : BitVec 32 := 1#32
  let v72 : BitVec 32 := Scalar.shrsi v71 c1_i32_42
  let c1_i32_43 : BitVec 32 := 1#32
  let v73 : BitVec 32 := Scalar.andi v71 c1_i32_43
  let c8192_i32_44 : BitVec 32 := 8192#32
  let v74 : BitVec 32 := Scalar.muli v73 c8192_i32_44
  ![1, v72.toNat, v74.toNat]
def k0_off9 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_12 : BitVec 32 := 1#32
  let arg20 : BitVec 32 := Scf.iv v3 c1_i32_12 k0_t1
  let c1_i32_36 : BitVec 32 := 1#32
  let v64 : BitVec 32 := Scalar.shrsi arg20 c1_i32_36
  let c0_i32_39 : BitVec 32 := 0#32
  let c1_i32_37 : BitVec 32 := 1#32
  let v65 : BitVec 32 := Scalar.andi arg20 c1_i32_37
  let c8192_i32_38 : BitVec 32 := 8192#32
  let v66 : BitVec 32 := Scalar.muli v65 c8192_i32_38
  ![v64.toNat, 0, v66.toNat]
@[reducible] def k0_t2_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let v24 : BitVec 32 := Scalar.addi v3 v23
  let c1_i32_13 : BitVec 32 := 1#32
  ⟨v27, v24, c1_i32_13⟩
def k0_cond8 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let v40 : BitVec 32 := Scalar.subi arg20 v3
  let c1_i32_22 : BitVec 32 := 1#32
  let v41 : BitVec 32 := Scalar.andi v40 c1_i32_22
  let c0_i32_23 : BitVec 32 := 0#32
  let v42 : BitVec 1 := Scalar.cmpi .eq v41 c0_i32_23
  let v43 : BitVec 32 := Scalar.extui v42
  let c0_i32_24 : BitVec 32 := 0#32
  let v44 : BitVec 1 := Scalar.cmpi .ne v43 c0_i32_24
  v44

def k0_off10 (i : grid0.Coords) (k0_t2 : Fin (k0_t2_loop i).trips) : Fin 3 → Nat :=
  let c1_i32_31 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_28 : BitVec 32 := 1#32
  let v50 : BitVec 32 := Scalar.shrsi arg20 c1_i32_28
  let c1_i32_29 : BitVec 32 := 1#32
  let v51 : BitVec 32 := Scalar.andi arg20 c1_i32_29
  let c8192_i32_30 : BitVec 32 := 8192#32
  let v52 : BitVec 32 := Scalar.muli v51 c8192_i32_30
  ![1, v50.toNat, v52.toNat]
def k0_cond9 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let v57 : BitVec 1 := Scalar.cmpi .sgt arg20 v3
  let v58 : BitVec 32 := Scalar.extui v57
  let c0_i32_33 : BitVec 32 := 0#32
  let v59 : BitVec 1 := Scalar.cmpi .ne v58 c0_i32_33
  v59

def k0_off11 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_41 : BitVec 32 := 1#32
  let v71 : BitVec 32 := Scalar.subi arg20 c1_i32_41
  let c1_i32_42 : BitVec 32 := 1#32
  let v72 : BitVec 32 := Scalar.shrsi v71 c1_i32_42
  let c0_i32_45 : BitVec 32 := 0#32
  let c1_i32_43 : BitVec 32 := 1#32
  let v73 : BitVec 32 := Scalar.andi v71 c1_i32_43
  let c8192_i32_44 : BitVec 32 := 8192#32
  let v74 : BitVec 32 := Scalar.muli v73 c8192_i32_44
  ![v72.toNat, 0, v74.toNat]
def k0_cond10 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_34 : BitVec 32 := 1#32
  let v60 : BitVec 32 := Scalar.addi arg20 c1_i32_34
  let v61 : BitVec 1 := Scalar.cmpi .slt v60 v6
  let v62 : BitVec 32 := Scalar.extui v61
  let c0_i32_35 : BitVec 32 := 0#32
  let v63 : BitVec 1 := Scalar.cmpi .ne v62 c0_i32_35
  v63

def k0_off12 (i : grid0.Coords) (k0_t2 : Fin (k0_t2_loop i).trips) : Fin 3 → Nat :=
  let c1_i32_45 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_41 : BitVec 32 := 1#32
  let v71 : BitVec 32 := Scalar.addi arg20 c1_i32_41
  let c1_i32_42 : BitVec 32 := 1#32
  let v72 : BitVec 32 := Scalar.shrsi v71 c1_i32_42
  let c1_i32_43 : BitVec 32 := 1#32
  let v73 : BitVec 32 := Scalar.andi v71 c1_i32_43
  let c8192_i32_44 : BitVec 32 := 8192#32
  let v74 : BitVec 32 := Scalar.muli v73 c8192_i32_44
  ![1, v72.toNat, v74.toNat]
def k0_off13 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_36 : BitVec 32 := 1#32
  let v64 : BitVec 32 := Scalar.shrsi arg20 c1_i32_36
  let c0_i32_39 : BitVec 32 := 0#32
  let c1_i32_37 : BitVec 32 := 1#32
  let v65 : BitVec 32 := Scalar.andi arg20 c1_i32_37
  let c8192_i32_38 : BitVec 32 := 8192#32
  let v66 : BitVec 32 := Scalar.muli v65 c8192_i32_38
  ![v64.toNat, 0, v66.toNat]
def k0_cond11 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let v45 : BitVec 32 := Scalar.subi arg20 v3
  let c1_i32_25 : BitVec 32 := 1#32
  let v46 : BitVec 32 := Scalar.andi v45 c1_i32_25
  let c1_i32_26 : BitVec 32 := 1#32
  let v47 : BitVec 1 := Scalar.cmpi .eq v46 c1_i32_26
  let v48 : BitVec 32 := Scalar.extui v47
  let c0_i32_27 : BitVec 32 := 0#32
  let v49 : BitVec 1 := Scalar.cmpi .ne v48 c0_i32_27
  v49

def k0_off14 (i : grid0.Coords) (k0_t2 : Fin (k0_t2_loop i).trips) : Fin 3 → Nat :=
  let c1_i32_31 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_28 : BitVec 32 := 1#32
  let v50 : BitVec 32 := Scalar.shrsi arg20 c1_i32_28
  let c1_i32_29 : BitVec 32 := 1#32
  let v51 : BitVec 32 := Scalar.andi arg20 c1_i32_29
  let c8192_i32_30 : BitVec 32 := 8192#32
  let v52 : BitVec 32 := Scalar.muli v51 c8192_i32_30
  ![1, v50.toNat, v52.toNat]
def k0_cond12 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let v57 : BitVec 1 := Scalar.cmpi .sgt arg20 v3
  let v58 : BitVec 32 := Scalar.extui v57
  let c0_i32_33 : BitVec 32 := 0#32
  let v59 : BitVec 1 := Scalar.cmpi .ne v58 c0_i32_33
  v59

def k0_off15 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_41 : BitVec 32 := 1#32
  let v71 : BitVec 32 := Scalar.subi arg20 c1_i32_41
  let c1_i32_42 : BitVec 32 := 1#32
  let v72 : BitVec 32 := Scalar.shrsi v71 c1_i32_42
  let c0_i32_45 : BitVec 32 := 0#32
  let c1_i32_43 : BitVec 32 := 1#32
  let v73 : BitVec 32 := Scalar.andi v71 c1_i32_43
  let c8192_i32_44 : BitVec 32 := 8192#32
  let v74 : BitVec 32 := Scalar.muli v73 c8192_i32_44
  ![v72.toNat, 0, v74.toNat]
def k0_cond13 (i : grid0.Coords) (k0_t2 : Fin (k0_t2_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_34 : BitVec 32 := 1#32
  let v60 : BitVec 32 := Scalar.addi arg20 c1_i32_34
  let v61 : BitVec 1 := Scalar.cmpi .slt v60 v6
  let v62 : BitVec 32 := Scalar.extui v61
  let c0_i32_35 : BitVec 32 := 0#32
  let v63 : BitVec 1 := Scalar.cmpi .ne v62 c0_i32_35
  v63

def k0_off16 (i : grid0.Coords) (k0_t2 : Fin (k0_t2_loop i).trips) : Fin 3 → Nat :=
  let c1_i32_45 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_41 : BitVec 32 := 1#32
  let v71 : BitVec 32 := Scalar.addi arg20 c1_i32_41
  let c1_i32_42 : BitVec 32 := 1#32
  let v72 : BitVec 32 := Scalar.shrsi v71 c1_i32_42
  let c1_i32_43 : BitVec 32 := 1#32
  let v73 : BitVec 32 := Scalar.andi v71 c1_i32_43
  let c8192_i32_44 : BitVec 32 := 8192#32
  let v74 : BitVec 32 := Scalar.muli v73 c8192_i32_44
  ![1, v72.toNat, v74.toNat]
def k0_off17 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c1_i32 : BitVec 32 := 1#32
  let v3 : BitVec 32 := Scalar.shrsi v2 c1_i32
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let v23 : BitVec 32 := Scalar.subi v6 v3
  let c1_i32_11 : BitVec 32 := 1#32
  let v25 : BitVec 32 := Scalar.divsi v23 c1_i32_11
  let v26 : BitVec 32 := Scalar.muli v25 c1_i32_11
  let v27 : BitVec 32 := Scalar.addi v3 v26
  let c1_i32_13 : BitVec 32 := 1#32
  let arg20 : BitVec 32 := Scf.iv v27 c1_i32_13 k0_t2
  let c1_i32_36 : BitVec 32 := 1#32
  let v64 : BitVec 32 := Scalar.shrsi arg20 c1_i32_36
  let c0_i32_39 : BitVec 32 := 0#32
  let c1_i32_37 : BitVec 32 := 1#32
  let v65 : BitVec 32 := Scalar.andi arg20 c1_i32_37
  let c8192_i32_38 : BitVec 32 := 8192#32
  let v66 : BitVec 32 := Scalar.muli v65 c8192_i32_38
  ![v64.toNat, 0, v66.toNat]
def k0_cond14 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let c1_i32_14 : BitVec 32 := 1#32
  let v28 : BitVec 32 := Scalar.subi v6 c1_i32_14
  let c25_i32 : BitVec 32 := 25#32
  let v2 : BitVec 32 := Scalar.muli v1 c25_i32
  let c1_i32 : BitVec 32 := 1#32
  let v3 : BitVec 32 := Scalar.shrsi v2 c1_i32
  let v29 : BitVec 32 := Scalar.subi v28 v3
  let c1_i32_15 : BitVec 32 := 1#32
  let v30 : BitVec 32 := Scalar.andi v29 c1_i32_15
  let c0_i32_16 : BitVec 32 := 0#32
  let v31 : BitVec 1 := Scalar.cmpi .eq v30 c0_i32_16
  let v32 : BitVec 32 := Scalar.extui v31
  let c0_i32_17 : BitVec 32 := 0#32
  let v33 : BitVec 1 := Scalar.cmpi .ne v32 c0_i32_17
  v33

def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let c1_i32_22 : BitVec 32 := 1#32
  let v40 : BitVec 32 := Scalar.subi v6 c1_i32_22
  let c1_i32_23 : BitVec 32 := 1#32
  let v41 : BitVec 32 := Scalar.shrsi v40 c1_i32_23
  let c0_i32_26 : BitVec 32 := 0#32
  let c1_i32_24 : BitVec 32 := 1#32
  let v42 : BitVec 32 := Scalar.andi v40 c1_i32_24
  let c8192_i32_25 : BitVec 32 := 8192#32
  let v43 : BitVec 32 := Scalar.muli v42 c8192_i32_25
  ![v41.toNat, 0, v43.toNat]
def k0_cond15 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let c1_i32_18 : BitVec 32 := 1#32
  let v34 : BitVec 32 := Scalar.subi v6 c1_i32_18
  let c25_i32 : BitVec 32 := 25#32
  let v2 : BitVec 32 := Scalar.muli v1 c25_i32
  let c1_i32 : BitVec 32 := 1#32
  let v3 : BitVec 32 := Scalar.shrsi v2 c1_i32
  let v35 : BitVec 32 := Scalar.subi v34 v3
  let c1_i32_19 : BitVec 32 := 1#32
  let v36 : BitVec 32 := Scalar.andi v35 c1_i32_19
  let c1_i32_20 : BitVec 32 := 1#32
  let v37 : BitVec 1 := Scalar.cmpi .eq v36 c1_i32_20
  let v38 : BitVec 32 := Scalar.extui v37
  let c0_i32_21 : BitVec 32 := 0#32
  let v39 : BitVec 1 := Scalar.cmpi .ne v38 c0_i32_21
  v39

def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v4 : BitVec 32 := Scalar.addi v1 c1_i32_0
  let c25_i32_1 : BitVec 32 := 25#32
  let v5 : BitVec 32 := Scalar.muli v4 c25_i32_1
  let c1_i32_2 : BitVec 32 := 1#32
  let v6 : BitVec 32 := Scalar.shrsi v5 c1_i32_2
  let c1_i32_22 : BitVec 32 := 1#32
  let v40 : BitVec 32 := Scalar.subi v6 c1_i32_22
  let c1_i32_23 : BitVec 32 := 1#32
  let v41 : BitVec 32 := Scalar.shrsi v40 c1_i32_23
  let c0_i32_26 : BitVec 32 := 0#32
  let c1_i32_24 : BitVec 32 := 1#32
  let v42 : BitVec 32 := Scalar.andi v40 c1_i32_24
  let c8192_i32_25 : BitVec 32 := 8192#32
  let v43 : BitVec 32 := Scalar.muli v42 c8192_i32_25
  ![v41.toNat, 0, v43.toNat]
def k0_cond16 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v10 : BitVec 1 := Scalar.cmpi .slt v1 c16_i32
  let v11 : BitVec 32 := Scalar.extui v10
  let c0_i32_3 : BitVec 32 := 0#32
  let v12 : BitVec 1 := Scalar.cmpi .ne v11 c0_i32_3
  v12

def k0_off20 (i : grid0.Coords) : Fin 3 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v16 : BitVec 32 := Scalar.andi v1 c15_i32
  let c25_i32_6 : BitVec 32 := 25#32
  let v17 : BitVec 32 := Scalar.muli v16 c25_i32_6
  let c0_i32_7 : BitVec 32 := 0#32
  let v18 : BitVec 32 := Scalar.addi v17 c0_i32_7
  let c4_i32 : BitVec 32 := 4#32
  let v19 : BitVec 32 := Scalar.shrsi v18 c4_i32
  let c8_i32 : BitVec 32 := 8#32
  let v20 : BitVec 32 := Scalar.muli v19 c8_i32
  let c15_i32_8 : BitVec 32 := 15#32
  let v21 : BitVec 32 := Scalar.andi v18 c15_i32_8
  let c1024_i32 : BitVec 32 := 1024#32
  let v22 : BitVec 32 := Scalar.muli v21 c1024_i32
  ![0, v20.toNat, v22.toNat]
@[reducible] def k0_t3_loop : Scf.Loop 32 :=
  let c0_i32_11 : BitVec 32 := 0#32
  let c25_i32_12 : BitVec 32 := 25#32
  let v27 : BitVec 32 := Scalar.addi c0_i32_11 c25_i32_12
  let c1_i32_13 : BitVec 32 := 1#32
  ⟨c0_i32_11, v27, c1_i32_13⟩
def k0_cond17 (k0_t3 : Fin k0_t3_loop.trips) : BitVec 1 :=
  let c0_i32_11 : BitVec 32 := 0#32
  let c1_i32_13 : BitVec 32 := 1#32
  let arg20 : BitVec 32 := Scf.iv c0_i32_11 c1_i32_13 k0_t3
  let c1_i32_29 : BitVec 32 := 1#32
  let v50 : BitVec 32 := Scalar.andi arg20 c1_i32_29
  let c0_i32_30 : BitVec 32 := 0#32
  let v51 : BitVec 1 := Scalar.cmpi .eq v50 c0_i32_30
  let v52 : BitVec 32 := Scalar.extui v51
  let c0_i32_31 : BitVec 32 := 0#32
  let v53 : BitVec 1 := Scalar.cmpi .ne v52 c0_i32_31
  v53

def k0_off21 (i : grid0.Coords) (k0_t3 : Fin k0_t3_loop.trips) : Fin 3 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_35 : BitVec 32 := 15#32
  let v58 : BitVec 32 := Scalar.andi v1 c15_i32_35
  let c25_i32_36 : BitVec 32 := 25#32
  let v59 : BitVec 32 := Scalar.muli v58 c25_i32_36
  let c0_i32_11 : BitVec 32 := 0#32
  let c1_i32_13 : BitVec 32 := 1#32
  let arg20 : BitVec 32 := Scf.iv c0_i32_11 c1_i32_13 k0_t3
  let v60 : BitVec 32 := Scalar.addi v59 arg20
  let c4_i32_37 : BitVec 32 := 4#32
  let v61 : BitVec 32 := Scalar.shrsi v60 c4_i32_37
  let c8_i32_38 : BitVec 32 := 8#32
  let v62 : BitVec 32 := Scalar.muli v61 c8_i32_38
  let c15_i32_39 : BitVec 32 := 15#32
  let v63 : BitVec 32 := Scalar.andi v60 c15_i32_39
  let c1024_i32_40 : BitVec 32 := 1024#32
  let v64 : BitVec 32 := Scalar.muli v63 c1024_i32_40
  ![0, v62.toNat, v64.toNat]
def k0_cond18 (k0_t3 : Fin k0_t3_loop.trips) : BitVec 1 :=
  let c0_i32_11 : BitVec 32 := 0#32
  let c1_i32_13 : BitVec 32 := 1#32
  let arg20 : BitVec 32 := Scf.iv c0_i32_11 c1_i32_13 k0_t3
  let c24_i32_42 : BitVec 32 := 24#32
  let v69 : BitVec 1 := Scalar.cmpi .slt arg20 c24_i32_42
  let v70 : BitVec 32 := Scalar.extui v69
  let c0_i32_43 : BitVec 32 := 0#32
  let v71 : BitVec 1 := Scalar.cmpi .ne v70 c0_i32_43
  v71

def k0_off22 (i : grid0.Coords) (k0_t3 : Fin k0_t3_loop.trips) : Fin 3 → Nat :=
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_58 : BitVec 32 := 15#32
  let v88 : BitVec 32 := Scalar.andi v1 c15_i32_58
  let c25_i32_59 : BitVec 32 := 25#32
  let v89 : BitVec 32 := Scalar.muli v88 c25_i32_59
  let c0_i32_11 : BitVec 32 := 0#32
  let c1_i32_13 : BitVec 32 := 1#32
  let arg20 : BitVec 32 := Scf.iv c0_i32_11 c1_i32_13 k0_t3
  let c1_i32_57 : BitVec 32 := 1#32
  let v87 : BitVec 32 := Scalar.addi arg20 c1_i32_57
  let v90 : BitVec 32 := Scalar.addi v89 v87
  let c4_i32_60 : BitVec 32 := 4#32
  let v91 : BitVec 32 := Scalar.shrsi v90 c4_i32_60
  let c8_i32_61 : BitVec 32 := 8#32
  let v92 : BitVec 32 := Scalar.muli v91 c8_i32_61
  let c15_i32_62 : BitVec 32 := 15#32
  let v93 : BitVec 32 := Scalar.andi v90 c15_i32_62
  let c1024_i32_63 : BitVec 32 := 1024#32
  let v94 : BitVec 32 := Scalar.muli v93 c1024_i32_63
  ![0, v92.toNat, v94.toNat]
def k0_cond19 (k0_t3 : Fin k0_t3_loop.trips) : BitVec 1 :=
  let c0_i32_11 : BitVec 32 := 0#32
  let c1_i32_13 : BitVec 32 := 1#32
  let arg20 : BitVec 32 := Scf.iv c0_i32_11 c1_i32_13 k0_t3
  let c2_i32_44 : BitVec 32 := 2#32
  let v72 : BitVec 1 := Scalar.cmpi .sge arg20 c2_i32_44
  let v73 : BitVec 32 := Scalar.extui v72
  let c0_i32_45 : BitVec 32 := 0#32
  let v74 : BitVec 1 := Scalar.cmpi .ne v73 c0_i32_45
  v74

def k0_off23 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_58 : BitVec 32 := 15#32
  let v88 : BitVec 32 := Scalar.andi v1 c15_i32_58
  let c25_i32_59 : BitVec 32 := 25#32
  let v89 : BitVec 32 := Scalar.muli v88 c25_i32_59
  let c0_i32_11 : BitVec 32 := 0#32
  let c1_i32_13 : BitVec 32 := 1#32
  let arg20 : BitVec 32 := Scf.iv c0_i32_11 c1_i32_13 k0_t3
  let c2_i32_57 : BitVec 32 := 2#32
  let v87 : BitVec 32 := Scalar.subi arg20 c2_i32_57
  let v90 : BitVec 32 := Scalar.addi v89 v87
  let c4_i32_60 : BitVec 32 := 4#32
  let v91 : BitVec 32 := Scalar.shrsi v90 c4_i32_60
  let c8_i32_61 : BitVec 32 := 8#32
  let v92 : BitVec 32 := Scalar.muli v91 c8_i32_61
  let c0_i32_64 : BitVec 32 := 0#32
  let c15_i32_62 : BitVec 32 := 15#32
  let v93 : BitVec 32 := Scalar.andi v90 c15_i32_62
  let c1024_i32_63 : BitVec 32 := 1024#32
  let v94 : BitVec 32 := Scalar.muli v93 c1024_i32_63
  ![v92.toNat, 0, v94.toNat]
@[reducible] def k0_t4_loop : Scf.Loop 32 :=
  let c0_i32_47 : BitVec 32 := 0#32
  let c64_i32 : BitVec 32 := 64#32
  let v75 : BitVec 32 := Scalar.addi c0_i32_47 c64_i32
  let c1_i32_48 : BitVec 32 := 1#32
  ⟨c0_i32_47, v75, c1_i32_48⟩
def k0_off24 (k0_t4 : Fin k0_t4_loop.trips) : Fin 2 → Nat :=
  let c0_i32_58 : BitVec 32 := 0#32
  let v88 : Index := Scalar.indexCast c0_i32_58
  let c0_i32_47 : BitVec 32 := 0#32
  let c1_i32_48 : BitVec 32 := 1#32
  let arg21 : BitVec 32 := Scf.iv c0_i32_47 c1_i32_48 k0_t4
  let c16_i32_57 : BitVec 32 := 16#32
  let v87 : BitVec 32 := Scalar.muli arg21 c16_i32_57
  let v89 : Index := Scalar.indexCast v87
  ![0, v89.toNat]
def k0_off25 (k0_t4 : Fin k0_t4_loop.trips) : Fin 2 → Nat :=
  let c1_i32_62 : BitVec 32 := 1#32
  let v97 : Index := Scalar.indexCast c1_i32_62
  let c0_i32_47 : BitVec 32 := 0#32
  let c1_i32_48 : BitVec 32 := 1#32
  let arg21 : BitVec 32 := Scf.iv c0_i32_47 c1_i32_48 k0_t4
  let c16_i32_61 : BitVec 32 := 16#32
  let v96 : BitVec 32 := Scalar.muli arg21 c16_i32_61
  let v98 : Index := Scalar.indexCast v96
  ![1, v98.toNat]
def k0_off26 (k0_t4 : Fin k0_t4_loop.trips) : Fin 2 → Nat :=
  let c2_i32_66 : BitVec 32 := 2#32
  let v106 : Index := Scalar.indexCast c2_i32_66
  let c0_i32_47 : BitVec 32 := 0#32
  let c1_i32_48 : BitVec 32 := 1#32
  let arg21 : BitVec 32 := Scf.iv c0_i32_47 c1_i32_48 k0_t4
  let c16_i32_65 : BitVec 32 := 16#32
  let v105 : BitVec 32 := Scalar.muli arg21 c16_i32_65
  let v107 : Index := Scalar.indexCast v105
  ![2, v107.toNat]
def k0_off27 (k0_t4 : Fin k0_t4_loop.trips) : Fin 2 → Nat :=
  let c3_i32 : BitVec 32 := 3#32
  let v115 : Index := Scalar.indexCast c3_i32
  let c0_i32_47 : BitVec 32 := 0#32
  let c1_i32_48 : BitVec 32 := 1#32
  let arg21 : BitVec 32 := Scf.iv c0_i32_47 c1_i32_48 k0_t4
  let c16_i32_69 : BitVec 32 := 16#32
  let v114 : BitVec 32 := Scalar.muli arg21 c16_i32_69
  let v116 : Index := Scalar.indexCast v114
  ![3, v116.toNat]
def k0_off28 (k0_t4 : Fin k0_t4_loop.trips) : Fin 2 → Nat :=
  let c4_i32_73 : BitVec 32 := 4#32
  let v124 : Index := Scalar.indexCast c4_i32_73
  let c0_i32_47 : BitVec 32 := 0#32
  let c1_i32_48 : BitVec 32 := 1#32
  let arg21 : BitVec 32 := Scf.iv c0_i32_47 c1_i32_48 k0_t4
  let c16_i32_72 : BitVec 32 := 16#32
  let v123 : BitVec 32 := Scalar.muli arg21 c16_i32_72
  let v125 : Index := Scalar.indexCast v123
  ![4, v125.toNat]
def k0_off29 (k0_t4 : Fin k0_t4_loop.trips) : Fin 2 → Nat :=
  let c5_i32 : BitVec 32 := 5#32
  let v133 : Index := Scalar.indexCast c5_i32
  let c0_i32_47 : BitVec 32 := 0#32
  let c1_i32_48 : BitVec 32 := 1#32
  let arg21 : BitVec 32 := Scf.iv c0_i32_47 c1_i32_48 k0_t4
  let c16_i32_76 : BitVec 32 := 16#32
  let v132 : BitVec 32 := Scalar.muli arg21 c16_i32_76
  let v134 : Index := Scalar.indexCast v132
  ![5, v134.toNat]
def k0_off30 (k0_t4 : Fin k0_t4_loop.trips) : Fin 2 → Nat :=
  let c6_i32 : BitVec 32 := 6#32
  let v142 : Index := Scalar.indexCast c6_i32
  let c0_i32_47 : BitVec 32 := 0#32
  let c1_i32_48 : BitVec 32 := 1#32
  let arg21 : BitVec 32 := Scf.iv c0_i32_47 c1_i32_48 k0_t4
  let c16_i32_79 : BitVec 32 := 16#32
  let v141 : BitVec 32 := Scalar.muli arg21 c16_i32_79
  let v143 : Index := Scalar.indexCast v141
  ![6, v143.toNat]
def k0_off31 (k0_t4 : Fin k0_t4_loop.trips) : Fin 2 → Nat :=
  let c7_i32 : BitVec 32 := 7#32
  let v151 : Index := Scalar.indexCast c7_i32
  let c0_i32_47 : BitVec 32 := 0#32
  let c1_i32_48 : BitVec 32 := 1#32
  let arg21 : BitVec 32 := Scf.iv c0_i32_47 c1_i32_48 k0_t4
  let c16_i32_82 : BitVec 32 := 16#32
  let v150 : BitVec 32 := Scalar.muli arg21 c16_i32_82
  let v152 : Index := Scalar.indexCast v150
  ![7, v152.toNat]
def k0_off32 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_50 : BitVec 32 := 15#32
  let v76 : BitVec 32 := Scalar.andi v1 c15_i32_50
  let c25_i32_51 : BitVec 32 := 25#32
  let v77 : BitVec 32 := Scalar.muli v76 c25_i32_51
  let c0_i32_11 : BitVec 32 := 0#32
  let c1_i32_13 : BitVec 32 := 1#32
  let arg20 : BitVec 32 := Scf.iv c0_i32_11 c1_i32_13 k0_t3
  let v78 : BitVec 32 := Scalar.addi v77 arg20
  let c4_i32_52 : BitVec 32 := 4#32
  let v79 : BitVec 32 := Scalar.shrsi v78 c4_i32_52
  let c8_i32_53 : BitVec 32 := 8#32
  let v80 : BitVec 32 := Scalar.muli v79 c8_i32_53
  let c0_i32_56 : BitVec 32 := 0#32
  let c15_i32_54 : BitVec 32 := 15#32
  let v81 : BitVec 32 := Scalar.andi v78 c15_i32_54
  let c1024_i32_55 : BitVec 32 := 1024#32
  let v82 : BitVec 32 := Scalar.muli v81 c1024_i32_55
  ![v80.toNat, 0, v82.toNat]
def k0_cond20 (k0_t3 : Fin k0_t3_loop.trips) : BitVec 1 :=
  let c0_i32_11 : BitVec 32 := 0#32
  let c1_i32_13 : BitVec 32 := 1#32
  let arg20 : BitVec 32 := Scf.iv c0_i32_11 c1_i32_13 k0_t3
  let c1_i32_32 : BitVec 32 := 1#32
  let v54 : BitVec 32 := Scalar.andi arg20 c1_i32_32
  let c1_i32_33 : BitVec 32 := 1#32
  let v55 : BitVec 1 := Scalar.cmpi .eq v54 c1_i32_33
  let v56 : BitVec 32 := Scalar.extui v55
  let c0_i32_34 : BitVec 32 := 0#32
  let v57 : BitVec 1 := Scalar.cmpi .ne v56 c0_i32_34
  v57

def k0_off33 (i : grid0.Coords) (k0_t3 : Fin k0_t3_loop.trips) : Fin 3 → Nat :=
  let c0_i32_41 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_35 : BitVec 32 := 15#32
  let v58 : BitVec 32 := Scalar.andi v1 c15_i32_35
  let c25_i32_36 : BitVec 32 := 25#32
  let v59 : BitVec 32 := Scalar.muli v58 c25_i32_36
  let c0_i32_11 : BitVec 32 := 0#32
  let c1_i32_13 : BitVec 32 := 1#32
  let arg20 : BitVec 32 := Scf.iv c0_i32_11 c1_i32_13 k0_t3
  let v60 : BitVec 32 := Scalar.addi v59 arg20
  let c4_i32_37 : BitVec 32 := 4#32
  let v61 : BitVec 32 := Scalar.shrsi v60 c4_i32_37
  let c8_i32_38 : BitVec 32 := 8#32
  let v62 : BitVec 32 := Scalar.muli v61 c8_i32_38
  let c15_i32_39 : BitVec 32 := 15#32
  let v63 : BitVec 32 := Scalar.andi v60 c15_i32_39
  let c1024_i32_40 : BitVec 32 := 1024#32
  let v64 : BitVec 32 := Scalar.muli v63 c1024_i32_40
  ![0, v62.toNat, v64.toNat]
def k0_cond21 (k0_t3 : Fin k0_t3_loop.trips) : BitVec 1 :=
  let c0_i32_11 : BitVec 32 := 0#32
  let c1_i32_13 : BitVec 32 := 1#32
  let arg20 : BitVec 32 := Scf.iv c0_i32_11 c1_i32_13 k0_t3
  let c24_i32_42 : BitVec 32 := 24#32
  let v69 : BitVec 1 := Scalar.cmpi .slt arg20 c24_i32_42
  let v70 : BitVec 32 := Scalar.extui v69
  let c0_i32_43 : BitVec 32 := 0#32
  let v71 : BitVec 1 := Scalar.cmpi .ne v70 c0_i32_43
  v71

def k0_off34 (i : grid0.Coords) (k0_t3 : Fin k0_t3_loop.trips) : Fin 3 → Nat :=
  let c0_i32_64 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_58 : BitVec 32 := 15#32
  let v88 : BitVec 32 := Scalar.andi v1 c15_i32_58
  let c25_i32_59 : BitVec 32 := 25#32
  let v89 : BitVec 32 := Scalar.muli v88 c25_i32_59
  let c0_i32_11 : BitVec 32 := 0#32
  let c1_i32_13 : BitVec 32 := 1#32
  let arg20 : BitVec 32 := Scf.iv c0_i32_11 c1_i32_13 k0_t3
  let c1_i32_57 : BitVec 32 := 1#32
  let v87 : BitVec 32 := Scalar.addi arg20 c1_i32_57
  let v90 : BitVec 32 := Scalar.addi v89 v87
  let c4_i32_60 : BitVec 32 := 4#32
  let v91 : BitVec 32 := Scalar.shrsi v90 c4_i32_60
  let c8_i32_61 : BitVec 32 := 8#32
  let v92 : BitVec 32 := Scalar.muli v91 c8_i32_61
  let c15_i32_62 : BitVec 32 := 15#32
  let v93 : BitVec 32 := Scalar.andi v90 c15_i32_62
  let c1024_i32_63 : BitVec 32 := 1024#32
  let v94 : BitVec 32 := Scalar.muli v93 c1024_i32_63
  ![0, v92.toNat, v94.toNat]
def k0_cond22 (k0_t3 : Fin k0_t3_loop.trips) : BitVec 1 :=
  let c0_i32_11 : BitVec 32 := 0#32
  let c1_i32_13 : BitVec 32 := 1#32
  let arg20 : BitVec 32 := Scf.iv c0_i32_11 c1_i32_13 k0_t3
  let c2_i32_44 : BitVec 32 := 2#32
  let v72 : BitVec 1 := Scalar.cmpi .sge arg20 c2_i32_44
  let v73 : BitVec 32 := Scalar.extui v72
  let c0_i32_45 : BitVec 32 := 0#32
  let v74 : BitVec 1 := Scalar.cmpi .ne v73 c0_i32_45
  v74

def k0_off35 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_58 : BitVec 32 := 15#32
  let v88 : BitVec 32 := Scalar.andi v1 c15_i32_58
  let c25_i32_59 : BitVec 32 := 25#32
  let v89 : BitVec 32 := Scalar.muli v88 c25_i32_59
  let c0_i32_11 : BitVec 32 := 0#32
  let c1_i32_13 : BitVec 32 := 1#32
  let arg20 : BitVec 32 := Scf.iv c0_i32_11 c1_i32_13 k0_t3
  let c2_i32_57 : BitVec 32 := 2#32
  let v87 : BitVec 32 := Scalar.subi arg20 c2_i32_57
  let v90 : BitVec 32 := Scalar.addi v89 v87
  let c4_i32_60 : BitVec 32 := 4#32
  let v91 : BitVec 32 := Scalar.shrsi v90 c4_i32_60
  let c8_i32_61 : BitVec 32 := 8#32
  let v92 : BitVec 32 := Scalar.muli v91 c8_i32_61
  let c0_i32_64 : BitVec 32 := 0#32
  let c15_i32_62 : BitVec 32 := 15#32
  let v93 : BitVec 32 := Scalar.andi v90 c15_i32_62
  let c1024_i32_63 : BitVec 32 := 1024#32
  let v94 : BitVec 32 := Scalar.muli v93 c1024_i32_63
  ![v92.toNat, 0, v94.toNat]
@[reducible] def k0_t5_loop : Scf.Loop 32 :=
  let c0_i32_47 : BitVec 32 := 0#32
  let c64_i32 : BitVec 32 := 64#32
  let v75 : BitVec 32 := Scalar.addi c0_i32_47 c64_i32
  let c1_i32_48 : BitVec 32 := 1#32
  ⟨c0_i32_47, v75, c1_i32_48⟩
def k0_off36 (k0_t5 : Fin k0_t5_loop.trips) : Fin 2 → Nat :=
  let c0_i32_58 : BitVec 32 := 0#32
  let v88 : Index := Scalar.indexCast c0_i32_58
  let c0_i32_47 : BitVec 32 := 0#32
  let c1_i32_48 : BitVec 32 := 1#32
  let arg21 : BitVec 32 := Scf.iv c0_i32_47 c1_i32_48 k0_t5
  let c16_i32_57 : BitVec 32 := 16#32
  let v87 : BitVec 32 := Scalar.muli arg21 c16_i32_57
  let v89 : Index := Scalar.indexCast v87
  ![0, v89.toNat]
def k0_off37 (k0_t5 : Fin k0_t5_loop.trips) : Fin 2 → Nat :=
  let c1_i32_62 : BitVec 32 := 1#32
  let v97 : Index := Scalar.indexCast c1_i32_62
  let c0_i32_47 : BitVec 32 := 0#32
  let c1_i32_48 : BitVec 32 := 1#32
  let arg21 : BitVec 32 := Scf.iv c0_i32_47 c1_i32_48 k0_t5
  let c16_i32_61 : BitVec 32 := 16#32
  let v96 : BitVec 32 := Scalar.muli arg21 c16_i32_61
  let v98 : Index := Scalar.indexCast v96
  ![1, v98.toNat]
def k0_off38 (k0_t5 : Fin k0_t5_loop.trips) : Fin 2 → Nat :=
  let c2_i32_66 : BitVec 32 := 2#32
  let v106 : Index := Scalar.indexCast c2_i32_66
  let c0_i32_47 : BitVec 32 := 0#32
  let c1_i32_48 : BitVec 32 := 1#32
  let arg21 : BitVec 32 := Scf.iv c0_i32_47 c1_i32_48 k0_t5
  let c16_i32_65 : BitVec 32 := 16#32
  let v105 : BitVec 32 := Scalar.muli arg21 c16_i32_65
  let v107 : Index := Scalar.indexCast v105
  ![2, v107.toNat]
def k0_off39 (k0_t5 : Fin k0_t5_loop.trips) : Fin 2 → Nat :=
  let c3_i32 : BitVec 32 := 3#32
  let v115 : Index := Scalar.indexCast c3_i32
  let c0_i32_47 : BitVec 32 := 0#32
  let c1_i32_48 : BitVec 32 := 1#32
  let arg21 : BitVec 32 := Scf.iv c0_i32_47 c1_i32_48 k0_t5
  let c16_i32_69 : BitVec 32 := 16#32
  let v114 : BitVec 32 := Scalar.muli arg21 c16_i32_69
  let v116 : Index := Scalar.indexCast v114
  ![3, v116.toNat]
def k0_off40 (k0_t5 : Fin k0_t5_loop.trips) : Fin 2 → Nat :=
  let c4_i32_73 : BitVec 32 := 4#32
  let v124 : Index := Scalar.indexCast c4_i32_73
  let c0_i32_47 : BitVec 32 := 0#32
  let c1_i32_48 : BitVec 32 := 1#32
  let arg21 : BitVec 32 := Scf.iv c0_i32_47 c1_i32_48 k0_t5
  let c16_i32_72 : BitVec 32 := 16#32
  let v123 : BitVec 32 := Scalar.muli arg21 c16_i32_72
  let v125 : Index := Scalar.indexCast v123
  ![4, v125.toNat]
def k0_off41 (k0_t5 : Fin k0_t5_loop.trips) : Fin 2 → Nat :=
  let c5_i32 : BitVec 32 := 5#32
  let v133 : Index := Scalar.indexCast c5_i32
  let c0_i32_47 : BitVec 32 := 0#32
  let c1_i32_48 : BitVec 32 := 1#32
  let arg21 : BitVec 32 := Scf.iv c0_i32_47 c1_i32_48 k0_t5
  let c16_i32_76 : BitVec 32 := 16#32
  let v132 : BitVec 32 := Scalar.muli arg21 c16_i32_76
  let v134 : Index := Scalar.indexCast v132
  ![5, v134.toNat]
def k0_off42 (k0_t5 : Fin k0_t5_loop.trips) : Fin 2 → Nat :=
  let c6_i32 : BitVec 32 := 6#32
  let v142 : Index := Scalar.indexCast c6_i32
  let c0_i32_47 : BitVec 32 := 0#32
  let c1_i32_48 : BitVec 32 := 1#32
  let arg21 : BitVec 32 := Scf.iv c0_i32_47 c1_i32_48 k0_t5
  let c16_i32_79 : BitVec 32 := 16#32
  let v141 : BitVec 32 := Scalar.muli arg21 c16_i32_79
  let v143 : Index := Scalar.indexCast v141
  ![6, v143.toNat]
def k0_off43 (k0_t5 : Fin k0_t5_loop.trips) : Fin 2 → Nat :=
  let c7_i32 : BitVec 32 := 7#32
  let v151 : Index := Scalar.indexCast c7_i32
  let c0_i32_47 : BitVec 32 := 0#32
  let c1_i32_48 : BitVec 32 := 1#32
  let arg21 : BitVec 32 := Scf.iv c0_i32_47 c1_i32_48 k0_t5
  let c16_i32_82 : BitVec 32 := 16#32
  let v150 : BitVec 32 := Scalar.muli arg21 c16_i32_82
  let v152 : Index := Scalar.indexCast v150
  ![7, v152.toNat]
def k0_off44 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_50 : BitVec 32 := 15#32
  let v76 : BitVec 32 := Scalar.andi v1 c15_i32_50
  let c25_i32_51 : BitVec 32 := 25#32
  let v77 : BitVec 32 := Scalar.muli v76 c25_i32_51
  let c0_i32_11 : BitVec 32 := 0#32
  let c1_i32_13 : BitVec 32 := 1#32
  let arg20 : BitVec 32 := Scf.iv c0_i32_11 c1_i32_13 k0_t3
  let v78 : BitVec 32 := Scalar.addi v77 arg20
  let c4_i32_52 : BitVec 32 := 4#32
  let v79 : BitVec 32 := Scalar.shrsi v78 c4_i32_52
  let c8_i32_53 : BitVec 32 := 8#32
  let v80 : BitVec 32 := Scalar.muli v79 c8_i32_53
  let c0_i32_56 : BitVec 32 := 0#32
  let c15_i32_54 : BitVec 32 := 15#32
  let v81 : BitVec 32 := Scalar.andi v78 c15_i32_54
  let c1024_i32_55 : BitVec 32 := 1024#32
  let v82 : BitVec 32 := Scalar.muli v81 c1024_i32_55
  ![v80.toNat, 0, v82.toNat]
def k0_off45 (i : grid0.Coords) (c23_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_15 : BitVec 32 := 15#32
  let v28 : BitVec 32 := Scalar.andi v1 c15_i32_15
  let c25_i32_16 : BitVec 32 := 25#32
  let v29 : BitVec 32 := Scalar.muli v28 c25_i32_16
  let v30 : BitVec 32 := Scalar.addi v29 c23_i32
  let c4_i32_17 : BitVec 32 := 4#32
  let v31 : BitVec 32 := Scalar.shrsi v30 c4_i32_17
  let c8_i32_18 : BitVec 32 := 8#32
  let v32 : BitVec 32 := Scalar.muli v31 c8_i32_18
  let c0_i32_21 : BitVec 32 := 0#32
  let c15_i32_19 : BitVec 32 := 15#32
  let v33 : BitVec 32 := Scalar.andi v30 c15_i32_19
  let c1024_i32_20 : BitVec 32 := 1024#32
  let v34 : BitVec 32 := Scalar.muli v33 c1024_i32_20
  ![v32.toNat, 0, v34.toNat]
def k0_cond23 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let v13 : BitVec 1 := Scalar.cmpi .sge v1 c16_i32_4
  let v14 : BitVec 32 := Scalar.extui v13
  let c0_i32_5 : BitVec 32 := 0#32
  let v15 : BitVec 1 := Scalar.cmpi .ne v14 c0_i32_5
  v15

def k0_off46 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let v16 : BitVec 32 := Scalar.andi v1 c15_i32
  let c25_i32_6 : BitVec 32 := 25#32
  let v17 : BitVec 32 := Scalar.muli v16 c25_i32_6
  let c0_i32_7 : BitVec 32 := 0#32
  let v18 : BitVec 32 := Scalar.addi v17 c0_i32_7
  let c4_i32 : BitVec 32 := 4#32
  let v19 : BitVec 32 := Scalar.shrsi v18 c4_i32
  let c8_i32 : BitVec 32 := 8#32
  let v20 : BitVec 32 := Scalar.muli v19 c8_i32
  let c15_i32_8 : BitVec 32 := 15#32
  let v21 : BitVec 32 := Scalar.andi v18 c15_i32_8
  let c1024_i32 : BitVec 32 := 1024#32
  let v22 : BitVec 32 := Scalar.muli v21 c1024_i32
  ![5, v20.toNat, v22.toNat]
@[reducible] def k0_t6_loop : Scf.Loop 32 :=
  let c0_i32_10 : BitVec 32 := 0#32
  let c25_i32_11 : BitVec 32 := 25#32
  let v27 : BitVec 32 := Scalar.addi c0_i32_10 c25_i32_11
  let c1_i32_12 : BitVec 32 := 1#32
  ⟨c0_i32_10, v27, c1_i32_12⟩
def k0_cond24 (k0_t6 : Fin k0_t6_loop.trips) : BitVec 1 :=
  let c0_i32_10 : BitVec 32 := 0#32
  let c1_i32_12 : BitVec 32 := 1#32
  let arg20 : BitVec 32 := Scf.iv c0_i32_10 c1_i32_12 k0_t6
  let c1_i32_28 : BitVec 32 := 1#32
  let v50 : BitVec 32 := Scalar.andi arg20 c1_i32_28
  let c0_i32_29 : BitVec 32 := 0#32
  let v51 : BitVec 1 := Scalar.cmpi .eq v50 c0_i32_29
  let v52 : BitVec 32 := Scalar.extui v51
  let c0_i32_30 : BitVec 32 := 0#32
  let v53 : BitVec 1 := Scalar.cmpi .ne v52 c0_i32_30
  v53

def k0_off47 (i : grid0.Coords) (k0_t6 : Fin k0_t6_loop.trips) : Fin 3 → Nat :=
  let c5_i32_40 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_34 : BitVec 32 := 15#32
  let v58 : BitVec 32 := Scalar.andi v1 c15_i32_34
  let c25_i32_35 : BitVec 32 := 25#32
  let v59 : BitVec 32 := Scalar.muli v58 c25_i32_35
  let c0_i32_10 : BitVec 32 := 0#32
  let c1_i32_12 : BitVec 32 := 1#32
  let arg20 : BitVec 32 := Scf.iv c0_i32_10 c1_i32_12 k0_t6
  let v60 : BitVec 32 := Scalar.addi v59 arg20
  let c4_i32_36 : BitVec 32 := 4#32
  let v61 : BitVec 32 := Scalar.shrsi v60 c4_i32_36
  let c8_i32_37 : BitVec 32 := 8#32
  let v62 : BitVec 32 := Scalar.muli v61 c8_i32_37
  let c15_i32_38 : BitVec 32 := 15#32
  let v63 : BitVec 32 := Scalar.andi v60 c15_i32_38
  let c1024_i32_39 : BitVec 32 := 1024#32
  let v64 : BitVec 32 := Scalar.muli v63 c1024_i32_39
  ![5, v62.toNat, v64.toNat]
def k0_cond25 (k0_t6 : Fin k0_t6_loop.trips) : BitVec 1 :=
  let c0_i32_10 : BitVec 32 := 0#32
  let c1_i32_12 : BitVec 32 := 1#32
  let arg20 : BitVec 32 := Scf.iv c0_i32_10 c1_i32_12 k0_t6
  let c24_i32_41 : BitVec 32 := 24#32
  let v69 : BitVec 1 := Scalar.cmpi .slt arg20 c24_i32_41
  let v70 : BitVec 32 := Scalar.extui v69
  let c0_i32_42 : BitVec 32 := 0#32
  let v71 : BitVec 1 := Scalar.cmpi .ne v70 c0_i32_42
  v71

def k0_off48 (i : grid0.Coords) (k0_t6 : Fin k0_t6_loop.trips) : Fin 3 → Nat :=
  let c5_i32_63 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_57 : BitVec 32 := 15#32
  let v88 : BitVec 32 := Scalar.andi v1 c15_i32_57
  let c25_i32_58 : BitVec 32 := 25#32
  let v89 : BitVec 32 := Scalar.muli v88 c25_i32_58
  let c0_i32_10 : BitVec 32 := 0#32
  let c1_i32_12 : BitVec 32 := 1#32
  let arg20 : BitVec 32 := Scf.iv c0_i32_10 c1_i32_12 k0_t6
  let c1_i32_56 : BitVec 32 := 1#32
  let v87 : BitVec 32 := Scalar.addi arg20 c1_i32_56
  let v90 : BitVec 32 := Scalar.addi v89 v87
  let c4_i32_59 : BitVec 32 := 4#32
  let v91 : BitVec 32 := Scalar.shrsi v90 c4_i32_59
  let c8_i32_60 : BitVec 32 := 8#32
  let v92 : BitVec 32 := Scalar.muli v91 c8_i32_60
  let c15_i32_61 : BitVec 32 := 15#32
  let v93 : BitVec 32 := Scalar.andi v90 c15_i32_61
  let c1024_i32_62 : BitVec 32 := 1024#32
  let v94 : BitVec 32 := Scalar.muli v93 c1024_i32_62
  ![5, v92.toNat, v94.toNat]
def k0_cond26 (k0_t6 : Fin k0_t6_loop.trips) : BitVec 1 :=
  let c0_i32_10 : BitVec 32 := 0#32
  let c1_i32_12 : BitVec 32 := 1#32
  let arg20 : BitVec 32 := Scf.iv c0_i32_10 c1_i32_12 k0_t6
  let c2_i32_43 : BitVec 32 := 2#32
  let v72 : BitVec 1 := Scalar.cmpi .sge arg20 c2_i32_43
  let v73 : BitVec 32 := Scalar.extui v72
  let c0_i32_44 : BitVec 32 := 0#32
  let v74 : BitVec 1 := Scalar.cmpi .ne v73 c0_i32_44
  v74

def k0_off49 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_57 : BitVec 32 := 15#32
  let v88 : BitVec 32 := Scalar.andi v1 c15_i32_57
  let c25_i32_58 : BitVec 32 := 25#32
  let v89 : BitVec 32 := Scalar.muli v88 c25_i32_58
  let c0_i32_10 : BitVec 32 := 0#32
  let c1_i32_12 : BitVec 32 := 1#32
  let arg20 : BitVec 32 := Scf.iv c0_i32_10 c1_i32_12 k0_t6
  let c2_i32_56 : BitVec 32 := 2#32
  let v87 : BitVec 32 := Scalar.subi arg20 c2_i32_56
  let v90 : BitVec 32 := Scalar.addi v89 v87
  let c4_i32_59 : BitVec 32 := 4#32
  let v91 : BitVec 32 := Scalar.shrsi v90 c4_i32_59
  let c8_i32_60 : BitVec 32 := 8#32
  let v92 : BitVec 32 := Scalar.muli v91 c8_i32_60
  let c0_i32_63 : BitVec 32 := 0#32
  let c15_i32_61 : BitVec 32 := 15#32
  let v93 : BitVec 32 := Scalar.andi v90 c15_i32_61
  let c1024_i32_62 : BitVec 32 := 1024#32
  let v94 : BitVec 32 := Scalar.muli v93 c1024_i32_62
  ![v92.toNat, 0, v94.toNat]
@[reducible] def k0_t7_loop : Scf.Loop 32 :=
  let c0_i32_46 : BitVec 32 := 0#32
  let c64_i32 : BitVec 32 := 64#32
  let v75 : BitVec 32 := Scalar.addi c0_i32_46 c64_i32
  let c1_i32_47 : BitVec 32 := 1#32
  ⟨c0_i32_46, v75, c1_i32_47⟩
def k0_off50 (k0_t7 : Fin k0_t7_loop.trips) : Fin 2 → Nat :=
  let c0_i32_57 : BitVec 32 := 0#32
  let v88 : Index := Scalar.indexCast c0_i32_57
  let c0_i32_46 : BitVec 32 := 0#32
  let c1_i32_47 : BitVec 32 := 1#32
  let arg21 : BitVec 32 := Scf.iv c0_i32_46 c1_i32_47 k0_t7
  let c16_i32_56 : BitVec 32 := 16#32
  let v87 : BitVec 32 := Scalar.muli arg21 c16_i32_56
  let v89 : Index := Scalar.indexCast v87
  ![0, v89.toNat]
def k0_off51 (k0_t7 : Fin k0_t7_loop.trips) : Fin 2 → Nat :=
  let c1_i32_61 : BitVec 32 := 1#32
  let v97 : Index := Scalar.indexCast c1_i32_61
  let c0_i32_46 : BitVec 32 := 0#32
  let c1_i32_47 : BitVec 32 := 1#32
  let arg21 : BitVec 32 := Scf.iv c0_i32_46 c1_i32_47 k0_t7
  let c16_i32_60 : BitVec 32 := 16#32
  let v96 : BitVec 32 := Scalar.muli arg21 c16_i32_60
  let v98 : Index := Scalar.indexCast v96
  ![1, v98.toNat]
def k0_off52 (k0_t7 : Fin k0_t7_loop.trips) : Fin 2 → Nat :=
  let c2_i32_65 : BitVec 32 := 2#32
  let v106 : Index := Scalar.indexCast c2_i32_65
  let c0_i32_46 : BitVec 32 := 0#32
  let c1_i32_47 : BitVec 32 := 1#32
  let arg21 : BitVec 32 := Scf.iv c0_i32_46 c1_i32_47 k0_t7
  let c16_i32_64 : BitVec 32 := 16#32
  let v105 : BitVec 32 := Scalar.muli arg21 c16_i32_64
  let v107 : Index := Scalar.indexCast v105
  ![2, v107.toNat]
def k0_off53 (k0_t7 : Fin k0_t7_loop.trips) : Fin 2 → Nat :=
  let c3_i32 : BitVec 32 := 3#32
  let v115 : Index := Scalar.indexCast c3_i32
  let c0_i32_46 : BitVec 32 := 0#32
  let c1_i32_47 : BitVec 32 := 1#32
  let arg21 : BitVec 32 := Scf.iv c0_i32_46 c1_i32_47 k0_t7
  let c16_i32_68 : BitVec 32 := 16#32
  let v114 : BitVec 32 := Scalar.muli arg21 c16_i32_68
  let v116 : Index := Scalar.indexCast v114
  ![3, v116.toNat]
def k0_off54 (k0_t7 : Fin k0_t7_loop.trips) : Fin 2 → Nat :=
  let c4_i32_72 : BitVec 32 := 4#32
  let v124 : Index := Scalar.indexCast c4_i32_72
  let c0_i32_46 : BitVec 32 := 0#32
  let c1_i32_47 : BitVec 32 := 1#32
  let arg21 : BitVec 32 := Scf.iv c0_i32_46 c1_i32_47 k0_t7
  let c16_i32_71 : BitVec 32 := 16#32
  let v123 : BitVec 32 := Scalar.muli arg21 c16_i32_71
  let v125 : Index := Scalar.indexCast v123
  ![4, v125.toNat]
def k0_off55 (k0_t7 : Fin k0_t7_loop.trips) : Fin 2 → Nat :=
  let c5_i32_76 : BitVec 32 := 5#32
  let v133 : Index := Scalar.indexCast c5_i32_76
  let c0_i32_46 : BitVec 32 := 0#32
  let c1_i32_47 : BitVec 32 := 1#32
  let arg21 : BitVec 32 := Scf.iv c0_i32_46 c1_i32_47 k0_t7
  let c16_i32_75 : BitVec 32 := 16#32
  let v132 : BitVec 32 := Scalar.muli arg21 c16_i32_75
  let v134 : Index := Scalar.indexCast v132
  ![5, v134.toNat]
def k0_off56 (k0_t7 : Fin k0_t7_loop.trips) : Fin 2 → Nat :=
  let c6_i32 : BitVec 32 := 6#32
  let v142 : Index := Scalar.indexCast c6_i32
  let c0_i32_46 : BitVec 32 := 0#32
  let c1_i32_47 : BitVec 32 := 1#32
  let arg21 : BitVec 32 := Scf.iv c0_i32_46 c1_i32_47 k0_t7
  let c16_i32_79 : BitVec 32 := 16#32
  let v141 : BitVec 32 := Scalar.muli arg21 c16_i32_79
  let v143 : Index := Scalar.indexCast v141
  ![6, v143.toNat]
def k0_off57 (k0_t7 : Fin k0_t7_loop.trips) : Fin 2 → Nat :=
  let c7_i32 : BitVec 32 := 7#32
  let v151 : Index := Scalar.indexCast c7_i32
  let c0_i32_46 : BitVec 32 := 0#32
  let c1_i32_47 : BitVec 32 := 1#32
  let arg21 : BitVec 32 := Scf.iv c0_i32_46 c1_i32_47 k0_t7
  let c16_i32_82 : BitVec 32 := 16#32
  let v150 : BitVec 32 := Scalar.muli arg21 c16_i32_82
  let v152 : Index := Scalar.indexCast v150
  ![7, v152.toNat]
def k0_off58 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_49 : BitVec 32 := 15#32
  let v76 : BitVec 32 := Scalar.andi v1 c15_i32_49
  let c25_i32_50 : BitVec 32 := 25#32
  let v77 : BitVec 32 := Scalar.muli v76 c25_i32_50
  let c0_i32_10 : BitVec 32 := 0#32
  let c1_i32_12 : BitVec 32 := 1#32
  let arg20 : BitVec 32 := Scf.iv c0_i32_10 c1_i32_12 k0_t6
  let v78 : BitVec 32 := Scalar.addi v77 arg20
  let c4_i32_51 : BitVec 32 := 4#32
  let v79 : BitVec 32 := Scalar.shrsi v78 c4_i32_51
  let c8_i32_52 : BitVec 32 := 8#32
  let v80 : BitVec 32 := Scalar.muli v79 c8_i32_52
  let c0_i32_55 : BitVec 32 := 0#32
  let c15_i32_53 : BitVec 32 := 15#32
  let v81 : BitVec 32 := Scalar.andi v78 c15_i32_53
  let c1024_i32_54 : BitVec 32 := 1024#32
  let v82 : BitVec 32 := Scalar.muli v81 c1024_i32_54
  ![v80.toNat, 0, v82.toNat]
def k0_cond27 (k0_t6 : Fin k0_t6_loop.trips) : BitVec 1 :=
  let c0_i32_10 : BitVec 32 := 0#32
  let c1_i32_12 : BitVec 32 := 1#32
  let arg20 : BitVec 32 := Scf.iv c0_i32_10 c1_i32_12 k0_t6
  let c1_i32_31 : BitVec 32 := 1#32
  let v54 : BitVec 32 := Scalar.andi arg20 c1_i32_31
  let c1_i32_32 : BitVec 32 := 1#32
  let v55 : BitVec 1 := Scalar.cmpi .eq v54 c1_i32_32
  let v56 : BitVec 32 := Scalar.extui v55
  let c0_i32_33 : BitVec 32 := 0#32
  let v57 : BitVec 1 := Scalar.cmpi .ne v56 c0_i32_33
  v57

def k0_off59 (i : grid0.Coords) (k0_t6 : Fin k0_t6_loop.trips) : Fin 3 → Nat :=
  let c5_i32_40 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_34 : BitVec 32 := 15#32
  let v58 : BitVec 32 := Scalar.andi v1 c15_i32_34
  let c25_i32_35 : BitVec 32 := 25#32
  let v59 : BitVec 32 := Scalar.muli v58 c25_i32_35
  let c0_i32_10 : BitVec 32 := 0#32
  let c1_i32_12 : BitVec 32 := 1#32
  let arg20 : BitVec 32 := Scf.iv c0_i32_10 c1_i32_12 k0_t6
  let v60 : BitVec 32 := Scalar.addi v59 arg20
  let c4_i32_36 : BitVec 32 := 4#32
  let v61 : BitVec 32 := Scalar.shrsi v60 c4_i32_36
  let c8_i32_37 : BitVec 32 := 8#32
  let v62 : BitVec 32 := Scalar.muli v61 c8_i32_37
  let c15_i32_38 : BitVec 32 := 15#32
  let v63 : BitVec 32 := Scalar.andi v60 c15_i32_38
  let c1024_i32_39 : BitVec 32 := 1024#32
  let v64 : BitVec 32 := Scalar.muli v63 c1024_i32_39
  ![5, v62.toNat, v64.toNat]
def k0_cond28 (k0_t6 : Fin k0_t6_loop.trips) : BitVec 1 :=
  let c0_i32_10 : BitVec 32 := 0#32
  let c1_i32_12 : BitVec 32 := 1#32
  let arg20 : BitVec 32 := Scf.iv c0_i32_10 c1_i32_12 k0_t6
  let c24_i32_41 : BitVec 32 := 24#32
  let v69 : BitVec 1 := Scalar.cmpi .slt arg20 c24_i32_41
  let v70 : BitVec 32 := Scalar.extui v69
  let c0_i32_42 : BitVec 32 := 0#32
  let v71 : BitVec 1 := Scalar.cmpi .ne v70 c0_i32_42
  v71

def k0_off60 (i : grid0.Coords) (k0_t6 : Fin k0_t6_loop.trips) : Fin 3 → Nat :=
  let c5_i32_63 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_57 : BitVec 32 := 15#32
  let v88 : BitVec 32 := Scalar.andi v1 c15_i32_57
  let c25_i32_58 : BitVec 32 := 25#32
  let v89 : BitVec 32 := Scalar.muli v88 c25_i32_58
  let c0_i32_10 : BitVec 32 := 0#32
  let c1_i32_12 : BitVec 32 := 1#32
  let arg20 : BitVec 32 := Scf.iv c0_i32_10 c1_i32_12 k0_t6
  let c1_i32_56 : BitVec 32 := 1#32
  let v87 : BitVec 32 := Scalar.addi arg20 c1_i32_56
  let v90 : BitVec 32 := Scalar.addi v89 v87
  let c4_i32_59 : BitVec 32 := 4#32
  let v91 : BitVec 32 := Scalar.shrsi v90 c4_i32_59
  let c8_i32_60 : BitVec 32 := 8#32
  let v92 : BitVec 32 := Scalar.muli v91 c8_i32_60
  let c15_i32_61 : BitVec 32 := 15#32
  let v93 : BitVec 32 := Scalar.andi v90 c15_i32_61
  let c1024_i32_62 : BitVec 32 := 1024#32
  let v94 : BitVec 32 := Scalar.muli v93 c1024_i32_62
  ![5, v92.toNat, v94.toNat]
def k0_cond29 (k0_t6 : Fin k0_t6_loop.trips) : BitVec 1 :=
  let c0_i32_10 : BitVec 32 := 0#32
  let c1_i32_12 : BitVec 32 := 1#32
  let arg20 : BitVec 32 := Scf.iv c0_i32_10 c1_i32_12 k0_t6
  let c2_i32_43 : BitVec 32 := 2#32
  let v72 : BitVec 1 := Scalar.cmpi .sge arg20 c2_i32_43
  let v73 : BitVec 32 := Scalar.extui v72
  let c0_i32_44 : BitVec 32 := 0#32
  let v74 : BitVec 1 := Scalar.cmpi .ne v73 c0_i32_44
  v74

def k0_off61 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_57 : BitVec 32 := 15#32
  let v88 : BitVec 32 := Scalar.andi v1 c15_i32_57
  let c25_i32_58 : BitVec 32 := 25#32
  let v89 : BitVec 32 := Scalar.muli v88 c25_i32_58
  let c0_i32_10 : BitVec 32 := 0#32
  let c1_i32_12 : BitVec 32 := 1#32
  let arg20 : BitVec 32 := Scf.iv c0_i32_10 c1_i32_12 k0_t6
  let c2_i32_56 : BitVec 32 := 2#32
  let v87 : BitVec 32 := Scalar.subi arg20 c2_i32_56
  let v90 : BitVec 32 := Scalar.addi v89 v87
  let c4_i32_59 : BitVec 32 := 4#32
  let v91 : BitVec 32 := Scalar.shrsi v90 c4_i32_59
  let c8_i32_60 : BitVec 32 := 8#32
  let v92 : BitVec 32 := Scalar.muli v91 c8_i32_60
  let c0_i32_63 : BitVec 32 := 0#32
  let c15_i32_61 : BitVec 32 := 15#32
  let v93 : BitVec 32 := Scalar.andi v90 c15_i32_61
  let c1024_i32_62 : BitVec 32 := 1024#32
  let v94 : BitVec 32 := Scalar.muli v93 c1024_i32_62
  ![v92.toNat, 0, v94.toNat]
@[reducible] def k0_t8_loop : Scf.Loop 32 :=
  let c0_i32_46 : BitVec 32 := 0#32
  let c64_i32 : BitVec 32 := 64#32
  let v75 : BitVec 32 := Scalar.addi c0_i32_46 c64_i32
  let c1_i32_47 : BitVec 32 := 1#32
  ⟨c0_i32_46, v75, c1_i32_47⟩
def k0_off62 (k0_t8 : Fin k0_t8_loop.trips) : Fin 2 → Nat :=
  let c0_i32_57 : BitVec 32 := 0#32
  let v88 : Index := Scalar.indexCast c0_i32_57
  let c0_i32_46 : BitVec 32 := 0#32
  let c1_i32_47 : BitVec 32 := 1#32
  let arg21 : BitVec 32 := Scf.iv c0_i32_46 c1_i32_47 k0_t8
  let c16_i32_56 : BitVec 32 := 16#32
  let v87 : BitVec 32 := Scalar.muli arg21 c16_i32_56
  let v89 : Index := Scalar.indexCast v87
  ![0, v89.toNat]
def k0_off63 (k0_t8 : Fin k0_t8_loop.trips) : Fin 2 → Nat :=
  let c1_i32_61 : BitVec 32 := 1#32
  let v97 : Index := Scalar.indexCast c1_i32_61
  let c0_i32_46 : BitVec 32 := 0#32
  let c1_i32_47 : BitVec 32 := 1#32
  let arg21 : BitVec 32 := Scf.iv c0_i32_46 c1_i32_47 k0_t8
  let c16_i32_60 : BitVec 32 := 16#32
  let v96 : BitVec 32 := Scalar.muli arg21 c16_i32_60
  let v98 : Index := Scalar.indexCast v96
  ![1, v98.toNat]
def k0_off64 (k0_t8 : Fin k0_t8_loop.trips) : Fin 2 → Nat :=
  let c2_i32_65 : BitVec 32 := 2#32
  let v106 : Index := Scalar.indexCast c2_i32_65
  let c0_i32_46 : BitVec 32 := 0#32
  let c1_i32_47 : BitVec 32 := 1#32
  let arg21 : BitVec 32 := Scf.iv c0_i32_46 c1_i32_47 k0_t8
  let c16_i32_64 : BitVec 32 := 16#32
  let v105 : BitVec 32 := Scalar.muli arg21 c16_i32_64
  let v107 : Index := Scalar.indexCast v105
  ![2, v107.toNat]
def k0_off65 (k0_t8 : Fin k0_t8_loop.trips) : Fin 2 → Nat :=
  let c3_i32 : BitVec 32 := 3#32
  let v115 : Index := Scalar.indexCast c3_i32
  let c0_i32_46 : BitVec 32 := 0#32
  let c1_i32_47 : BitVec 32 := 1#32
  let arg21 : BitVec 32 := Scf.iv c0_i32_46 c1_i32_47 k0_t8
  let c16_i32_68 : BitVec 32 := 16#32
  let v114 : BitVec 32 := Scalar.muli arg21 c16_i32_68
  let v116 : Index := Scalar.indexCast v114
  ![3, v116.toNat]
def k0_off66 (k0_t8 : Fin k0_t8_loop.trips) : Fin 2 → Nat :=
  let c4_i32_72 : BitVec 32 := 4#32
  let v124 : Index := Scalar.indexCast c4_i32_72
  let c0_i32_46 : BitVec 32 := 0#32
  let c1_i32_47 : BitVec 32 := 1#32
  let arg21 : BitVec 32 := Scf.iv c0_i32_46 c1_i32_47 k0_t8
  let c16_i32_71 : BitVec 32 := 16#32
  let v123 : BitVec 32 := Scalar.muli arg21 c16_i32_71
  let v125 : Index := Scalar.indexCast v123
  ![4, v125.toNat]
def k0_off67 (k0_t8 : Fin k0_t8_loop.trips) : Fin 2 → Nat :=
  let c5_i32_76 : BitVec 32 := 5#32
  let v133 : Index := Scalar.indexCast c5_i32_76
  let c0_i32_46 : BitVec 32 := 0#32
  let c1_i32_47 : BitVec 32 := 1#32
  let arg21 : BitVec 32 := Scf.iv c0_i32_46 c1_i32_47 k0_t8
  let c16_i32_75 : BitVec 32 := 16#32
  let v132 : BitVec 32 := Scalar.muli arg21 c16_i32_75
  let v134 : Index := Scalar.indexCast v132
  ![5, v134.toNat]
def k0_off68 (k0_t8 : Fin k0_t8_loop.trips) : Fin 2 → Nat :=
  let c6_i32 : BitVec 32 := 6#32
  let v142 : Index := Scalar.indexCast c6_i32
  let c0_i32_46 : BitVec 32 := 0#32
  let c1_i32_47 : BitVec 32 := 1#32
  let arg21 : BitVec 32 := Scf.iv c0_i32_46 c1_i32_47 k0_t8
  let c16_i32_79 : BitVec 32 := 16#32
  let v141 : BitVec 32 := Scalar.muli arg21 c16_i32_79
  let v143 : Index := Scalar.indexCast v141
  ![6, v143.toNat]
def k0_off69 (k0_t8 : Fin k0_t8_loop.trips) : Fin 2 → Nat :=
  let c7_i32 : BitVec 32 := 7#32
  let v151 : Index := Scalar.indexCast c7_i32
  let c0_i32_46 : BitVec 32 := 0#32
  let c1_i32_47 : BitVec 32 := 1#32
  let arg21 : BitVec 32 := Scf.iv c0_i32_46 c1_i32_47 k0_t8
  let c16_i32_82 : BitVec 32 := 16#32
  let v150 : BitVec 32 := Scalar.muli arg21 c16_i32_82
  let v152 : Index := Scalar.indexCast v150
  ![7, v152.toNat]
def k0_off70 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_49 : BitVec 32 := 15#32
  let v76 : BitVec 32 := Scalar.andi v1 c15_i32_49
  let c25_i32_50 : BitVec 32 := 25#32
  let v77 : BitVec 32 := Scalar.muli v76 c25_i32_50
  let c0_i32_10 : BitVec 32 := 0#32
  let c1_i32_12 : BitVec 32 := 1#32
  let arg20 : BitVec 32 := Scf.iv c0_i32_10 c1_i32_12 k0_t6
  let v78 : BitVec 32 := Scalar.addi v77 arg20
  let c4_i32_51 : BitVec 32 := 4#32
  let v79 : BitVec 32 := Scalar.shrsi v78 c4_i32_51
  let c8_i32_52 : BitVec 32 := 8#32
  let v80 : BitVec 32 := Scalar.muli v79 c8_i32_52
  let c0_i32_55 : BitVec 32 := 0#32
  let c15_i32_53 : BitVec 32 := 15#32
  let v81 : BitVec 32 := Scalar.andi v78 c15_i32_53
  let c1024_i32_54 : BitVec 32 := 1024#32
  let v82 : BitVec 32 := Scalar.muli v81 c1024_i32_54
  ![v80.toNat, 0, v82.toNat]
def k0_off71 (i : grid0.Coords) (c23_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_14 : BitVec 32 := 15#32
  let v28 : BitVec 32 := Scalar.andi v1 c15_i32_14
  let c25_i32_15 : BitVec 32 := 25#32
  let v29 : BitVec 32 := Scalar.muli v28 c25_i32_15
  let v30 : BitVec 32 := Scalar.addi v29 c23_i32
  let c4_i32_16 : BitVec 32 := 4#32
  let v31 : BitVec 32 := Scalar.shrsi v30 c4_i32_16
  let c8_i32_17 : BitVec 32 := 8#32
  let v32 : BitVec 32 := Scalar.muli v31 c8_i32_17
  let c0_i32_20 : BitVec 32 := 0#32
  let c15_i32_18 : BitVec 32 := 15#32
  let v33 : BitVec 32 := Scalar.andi v30 c15_i32_18
  let c1024_i32_19 : BitVec 32 := 1024#32
  let v34 : BitVec 32 := Scalar.muli v33 c1024_i32_19
  ![v32.toNat, 0, v34.toNat]
abbrev grid1 : Pipeline.Grid := ⟨1, ![75], ![false]⟩

def cc1_transform_0 (i : grid1.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c25_i32_4 : BitVec 32 := 25#32
  let c0_i32_5 : BitVec 32 := 0#32
  let v18 : BitVec 1 := Scalar.cmpi .eq c25_i32_4 c0_i32_5
  let c1_i32_6 : BitVec 32 := 1#32
  let v19 : BitVec 32 := Scalar.select v18 c1_i32_6 c25_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc1_transform_1 (i : grid1.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage1_0 : Fin 2 → Memref sig .tc .vmem S1x8x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200x9 : Shape := ⟨3, ![16384, 200, 9]⟩
abbrev S1 : Shape := ⟨1, ![1]⟩
abbrev S4 : Shape := ⟨1, ![4]⟩
abbrev S3 : Shape := ⟨1, ![3]⟩
abbrev S_ : Shape := ⟨0, ![]⟩
abbrev S1x1 : Shape := ⟨2, ![1, 1]⟩
abbrev S16384x200x1 : Shape := ⟨3, ![16384, 200, 1]⟩
abbrev S4x1 : Shape := ⟨2, ![4, 1]⟩
abbrev S16384x200x4 : Shape := ⟨3, ![16384, 200, 4]⟩
abbrev S3x1 : Shape := ⟨2, ![3, 1]⟩
abbrev S16384x200x3 : Shape := ⟨3, ![16384, 200, 3]⟩

abbrev nBuf : Space → Nat
  | .hbm => 97
  | .vmem => 0
  | .smem => 0
  | _ => 0

abbrev bufTy : (tb : Table) → Fin (tcTables nBuf tb) → BufTy
  | .hbm, ⟨0, _⟩ => ⟨S16384x200x9, .f32⟩
  | .hbm, ⟨1, _⟩ => ⟨S1, .i32⟩
  | .hbm, ⟨2, _⟩ => ⟨S4, .i32⟩
  | .hbm, ⟨3, _⟩ => ⟨S1, .i32⟩
  | .hbm, ⟨4, _⟩ => ⟨S3, .i32⟩
  | .hbm, ⟨5, _⟩ => ⟨S_, .i32⟩
  | .hbm, ⟨6, _⟩ => ⟨S1, .i32⟩
  | .hbm, ⟨7, _⟩ => ⟨S1, .i1⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1x1, .i32⟩
  | .hbm, ⟨13, _⟩ => ⟨S1, .i32⟩
  | .hbm, ⟨14, _⟩ => ⟨S_, .i32⟩
  | .hbm, ⟨15, _⟩ => ⟨S1x1, .i32⟩
  | .hbm, ⟨16, _⟩ => ⟨S1x1, .i1⟩
  | .hbm, ⟨17, _⟩ => ⟨S1x1, .i32⟩
  | .hbm, ⟨18, _⟩ => ⟨S1x1, .i1⟩
  | .hbm, ⟨19, _⟩ => ⟨S1x1, .i1⟩
  | .hbm, ⟨20, _⟩ => ⟨S_, .i1⟩
  | .hbm, ⟨21, _⟩ => ⟨S1, .i1⟩
  | .hbm, ⟨22, _⟩ => ⟨S16384x200x1, .f32⟩
  | .hbm, ⟨23, _⟩ => ⟨S16384x200x1, .i1⟩
  | .hbm, ⟨24, _⟩ => ⟨S_, .f32⟩
  | .hbm, ⟨25, _⟩ => ⟨S16384x200x1, .f32⟩
  | .hbm, ⟨26, _⟩ => ⟨S16384x200x1, .f32⟩
  | .hbm, ⟨27, _⟩ => ⟨S16384x200x1, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S1, .i32⟩
  | .hbm, ⟨37, _⟩ => ⟨S_, .i32⟩
  | .hbm, ⟨38, _⟩ => ⟨S4x1, .i32⟩
  | .hbm, ⟨39, _⟩ => ⟨S4x1, .i1⟩
  | .hbm, ⟨40, _⟩ => ⟨S1x1, .i32⟩
  | .hbm, ⟨41, _⟩ => ⟨S4x1, .i32⟩
  | .hbm, ⟨42, _⟩ => ⟨S4x1, .i1⟩
  | .hbm, ⟨43, _⟩ => ⟨S4x1, .i1⟩
  | .hbm, ⟨44, _⟩ => ⟨S_, .i1⟩
  | .hbm, ⟨45, _⟩ => ⟨S4, .i1⟩
  | .hbm, ⟨46, _⟩ => ⟨S16384x200x4, .f32⟩
  | .hbm, ⟨47, _⟩ => ⟨S16384x200x4, .i1⟩
  | .hbm, ⟨48, _⟩ => ⟨S_, .f32⟩
  | .hbm, ⟨49, _⟩ => ⟨S16384x200x4, .f32⟩
  | .hbm, ⟨50, _⟩ => ⟨S16384x200x4, .f32⟩
  | .hbm, ⟨51, _⟩ => ⟨S_, .i32⟩
  | .hbm, ⟨52, _⟩ => ⟨S1, .i32⟩
  | .hbm, ⟨53, _⟩ => ⟨S1, .i1⟩
  | .hbm, ⟨54, _⟩ => ⟨S_, .i32⟩
  | .hbm, ⟨55, _⟩ => ⟨S1, .i32⟩
  | .hbm, ⟨56, _⟩ => ⟨S1, .i32⟩
  | .hbm, ⟨57, _⟩ => ⟨S1, .i32⟩
  | .hbm, ⟨58, _⟩ => ⟨S1x1, .i32⟩
  | .hbm, ⟨59, _⟩ => ⟨S1, .i32⟩
  | .hbm, ⟨60, _⟩ => ⟨S_, .i32⟩
  | .hbm, ⟨61, _⟩ => ⟨S1x1, .i32⟩
  | .hbm, ⟨62, _⟩ => ⟨S1x1, .i1⟩
  | .hbm, ⟨63, _⟩ => ⟨S1x1, .i32⟩
  | .hbm, ⟨64, _⟩ => ⟨S1x1, .i1⟩
  | .hbm, ⟨65, _⟩ => ⟨S1x1, .i1⟩
  | .hbm, ⟨66, _⟩ => ⟨S_, .i1⟩
  | .hbm, ⟨67, _⟩ => ⟨S1, .i1⟩
  | .hbm, ⟨68, _⟩ => ⟨S16384x200x1, .f32⟩
  | .hbm, ⟨69, _⟩ => ⟨S16384x200x1, .i1⟩
  | .hbm, ⟨70, _⟩ => ⟨S_, .f32⟩
  | .hbm, ⟨71, _⟩ => ⟨S16384x200x1, .f32⟩
  | .hbm, ⟨72, _⟩ => ⟨S16384x200x1, .f32⟩
  | .hbm, ⟨73, _⟩ => ⟨S16384x200x1, .i32⟩
  | .hbm, ⟨74, _⟩ => ⟨S_, .i32⟩
  | .hbm, ⟨75, _⟩ => ⟨S3, .i32⟩
  | .hbm, ⟨76, _⟩ => ⟨S3, .i1⟩
  | .hbm, ⟨77, _⟩ => ⟨S_, .i32⟩
  | .hbm, ⟨78, _⟩ => ⟨S3, .i32⟩
  | .hbm, ⟨79, _⟩ => ⟨S3, .i32⟩
  | .hbm, ⟨80, _⟩ => ⟨S3, .i32⟩
  | .hbm, ⟨81, _⟩ => ⟨S3x1, .i32⟩
  | .hbm, ⟨82, _⟩ => ⟨S1, .i32⟩
  | .hbm, ⟨83, _⟩ => ⟨S_, .i32⟩
  | .hbm, ⟨84, _⟩ => ⟨S3x1, .i32⟩
  | .hbm, ⟨85, _⟩ => ⟨S3x1, .i1⟩
  | .hbm, ⟨86, _⟩ => ⟨S1x1, .i32⟩
  | .hbm, ⟨87, _⟩ => ⟨S3x1, .i32⟩
  | .hbm, ⟨88, _⟩ => ⟨S3x1, .i1⟩
  | .hbm, ⟨89, _⟩ => ⟨S3x1, .i1⟩
  | .hbm, ⟨90, _⟩ => ⟨S_, .i1⟩
  | .hbm, ⟨91, _⟩ => ⟨S3, .i1⟩
  | .hbm, ⟨92, _⟩ => ⟨S16384x200x3, .f32⟩
  | .hbm, ⟨93, _⟩ => ⟨S16384x200x3, .i1⟩
  | .hbm, ⟨94, _⟩ => ⟨S_, .f32⟩
  | .hbm, ⟨95, _⟩ => ⟨S16384x200x3, .f32⟩
  | .hbm, ⟨96, _⟩ => ⟨S16384x200x3, .f32⟩
  | _, _ => ⟨S16384x200x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_c_3 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v3 : Ref sig .tc := ⟨.hbm, 72, rfl⟩
abbrev main_v4 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v5 : Ref sig .tc := ⟨.hbm, 96, rfl⟩

abbrev nD : Nat := 1
abbrev τ : Topo := Topo.v7x

variable {F : FTy → Type} [FloatOps F]
-- ==== Proof.Setup.lean ====
/-
  The kernel's program as the launch theorem for SparseCores takes it, and the resource algebra of the proof:
  the rounds of the SparseCore handshakes, the rounds of the TensorCore call's pipeline, and the counters of the
  transfers that a tile issues and waits for.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Transfers
public import Idealize.ShloMosaic.Lib.Scf
public import Idealize.ShloMosaic.Lib.Tactic

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program below the SparseCore calls: the kernel bodies and the one pipeline. -/
abbrev ΛP : Labels := Pipeline.Sig Λ₀ (Fin 1) fun p => (pcfgs (F := F) p).Adm
/-- The SparseCore calls of the program. -/
abbrev K : SparseCore.Cfg τ sig (ΛP (F := F)) 1 := sc (F := F)
/-- What each label runs, below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and none is scoped; no buffer of a SparseCore is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; the pipeline's; both beside the counters. -/
abbrev UH : Type := URounds (GSem nD τ sig) ℕ
abbrev UP : Type := URounds (GSem nD τ sig) Unit
abbrev UU : Type := UH × (UP × Counters)

/-- The algebra that every assertion of the proof is over. -/
abbrev MM (F : FTy → Type) : Type := MT nD τ sig (HIx 1) (Elt F) ℕ UU ℕ

/-- The handshakes' rounds in that algebra; -/
abbrev EH : Emb UH (MM F) := embL
/-- the pipeline's rounds; -/
abbrev EP : Emb UP (MM F) := (Emb.inl : Emb UP (UP × Counters)).trans (embR : Emb (UP × Counters) (MM F))
/-- and the transfers' counters. -/
abbrev EC : UEmb Counters (MM F) := countersEmb

end Cert.Proof.Sc

end
-- ==== Proof.Blocks.lean ====
/-
  What a tile does with one transfer at a time: the assertions about a buffer in hand, a semaphore with or without a
  transfer in flight, and the rules by which a tile issues a transfer and waits for one.
-/
module

public import proofs.«01_k».proof.Proof.Setup
public import Idealize.ShloMosaic.Lib.ViewIndex

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.Transfers (Flight Flight_mono MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

section Logic

variable (d : Dev nD) (c : Fin τ.nSC) (i : Fin τ.nSub)
variable {sp sp' : Space} {s s' : Shape} {e e' : EltTy}

/-- The buffer under a memref, in hand at contents of no interest. -/
def hole (a : Memref sig .scVector sp s e) : sProp 𝕄 :=
  iprop(∃ f : Buf (Elt F) (a.view.loc (V d c i)), a.view.loc (V d c i) ↦[a.view.set]{fullShare} f)

/-- The buffer under a memref, in hand and read as `X`. -/
def full (a : Memref sig .scVector sp s e) (X : s.Idx → Elt F e) : sProp 𝕄 :=
  iprop(∃ f : Buf (Elt F) (a.view.loc (V d c i)), ⌜a.view.read (Elt F) f = X⌝ ∗ a.view.loc (V d c i) ↦[a.view.set]{fullShare} f)

/-- A transfer in flight on a tile's semaphore, delivering `R`. -/
abbrev flying (sem : DmaSem sig) (N : ℕ) (R : sProp 𝕄) : sProp 𝕄 :=
  Flight EC (V d c i) (SemLoc.dma sem) (none : HIx 1) N R

/-- A tile's semaphore at zero. -/
abbrev rest (sem : DmaSem sig) : sProp 𝕄 := semVal (V d c i, SemLoc.dma sem) 0

/-- A semaphore with a transfer in flight that delivers `R` if `p`; else at zero, with `R'` in hand. -/
def slot (p : Prop) [Decidable p] (sem : DmaSem sig) (N : ℕ) (R R' : sProp 𝕄) : sProp 𝕄 :=
  if p then flying d c i sem N R else iprop(rest d c i sem ∗ R')

/-- What the tile owes the launch, its waits so far being those of `W` and transfers' waits. -/
def Owes (O : CellTallies nD τ sig (HIx 1)) (W : Waits sig (HIx 1)) : sProp 𝕄 :=
  iprop(∃ W', ⌜∀ p ∈ W', p ∈ W ∨ p.2 = none⌝ ∗ owes (V d c i) O W')

theorem slot_pos {p : Prop} [Decidable p] (h : p) (sem : DmaSem sig) (N : ℕ) (R R' : sProp 𝕄) :
    slot d c i p sem N R R' = flying d c i sem N R := if_pos h
theorem slot_neg {p : Prop} [Decidable p] (h : ¬p) (sem : DmaSem sig) (N : ℕ) (R R' : sProp 𝕄) :
    slot d c i p sem N R R' = iprop(rest d c i sem ∗ R') := if_neg h

theorem full_hole (a : Memref sig .scVector sp s e) (X : s.Idx → Elt F e) : full d c i a X ⊢ hole d c i a := by
  unfold full hole
  iintro ⟨%f, -, H⟩
  iexists f; iexact H

/-- A transfer in flight delivers beside its own what is framed to it. -/
theorem flying_frame (sem : DmaSem sig) (N : ℕ) (R R' : sProp 𝕄) :
    iprop(flying d c i sem N R ∗ R') ⊢ flying d c i sem N iprop(R ∗ R') := by
  unfold flying Flight
  iintro ⟨⟨⟨%A, HA, %hcap, %hpeek⟩, Hcred⟩, HR'⟩
  isplitl [HA HR']
  · iexists iprop(A ∗ R')
    isplitl [HA HR']; · isplitl [HA] <;> iassumption
    isplit
    · ipureintro
      intro Kt
      refine BIBase.Entails.trans ?_ (hcap Kt)
      iintro ⟨⟨HA, HR'⟩, HK⟩
      isplitl [HA]; · iexact HA
      iintro ⟨Hv, HR⟩
      iapply HK
      isplitl [Hv]; · iexact Hv
      isplitl [HR] <;> iassumption
    · ipureintro
      intro Kt
      refine BIBase.Entails.trans ?_ (hpeek Kt)
      iintro ⟨⟨HA, HR'⟩, HK⟩
      isplitl [HA]; · iexact HA
      iintro HA
      iapply HK
      isplitl [HA] <;> iassumption
  · iexact Hcred

end Logic

variable [FloatOps F]
variable (d : Dev nD) (c : Fin τ.nSC) (i : Fin τ.nSub)
variable {sp sp' : Space} {s s' : Shape} {e e' : EltTy}

/-- A tile's program runs to `Q`. -/
abbrev runs {α : Type} (p : Prog (TpuEff nD τ sig (Elt F) Λ₀ (.scVector c i)) α) (Q : α → sProp 𝕄) : sProp 𝕄 :=
  wp frame (wpE (defs₀ (F := F)) 𝒱₀ (V d c i) none) Set.univ p Q

/-- A wait for a transfer in flight takes what it delivers and leaves the semaphore at zero. -/
theorem wait_flying (O : CellTallies nD τ sig (HIx 1)) (W : Waits sig (HIx 1)) {κ' : Kind} {sem : DmaSem sig}
    {srcw : Memref sig .scVector sp' s' e'} {dstw : Memref sig κ' sp s e} {hsrc : srcw.view.WordExact} {hdst : dstw.view.WordExact}
    {N : ℕ} (hN : dstw.view.dmaCredit = N) (R : sProp 𝕄) :
    iprop(MayWaits (V d c i) (none : HIx 1) O ∗ flying d c i sem N R ∗ Owes d c i O W)
      ⊢ runs d c i (Prog.lift (.waitDma2 sem srcw dstw hsrc hdst)) fun _ => iprop(R ∗ rest d c i sem ∗ Owes d c i O W) := by
  unfold Owes
  iintro ⟨Hmw, HF, %W', %hW', HO⟩
  ihave Hmw1 := (Transfers.MayWaits.elim (SemLoc.dma sem)) $$ Hmw
  iapply (Transfers.wp_waitLocalO EC 𝒱₀ (V d c i) none none hN) $$ [HF HO Hmw1]
  · isplitl [HF]; · iexact HF
    isplitl [HO] <;> iassumption
  iintro ⟨HR, Hv, HO⟩
  iapply (le_wp_ret _ _ _ _ _)
  isplitl [HR]; · iexact HR
  isplitl [Hv]; · iexact Hv
  iexists (insert (SemLoc.dma sem, (none : HIx 1)) W'); isplitr
  · ipureintro
    intro p hp
    rcases Finset.mem_insert.mp hp with hp | hp
    · exact .inr (by rw [hp])
    · exact hW' p hp
  · iexact HO

/-- A tile issues a transfer into a buffer in hand out of a share of the array `x`: in flight, it delivers the buffer
    filled with what the source reads, and the share of the array whole. -/
theorem issue_in {src : Memref sig .scVector sp' s e} {a : Memref sig .scVector sp s e} {sem : DmaSem sig}
    {hsrc : src.view.WordExact} {hdst : a.view.WordExact} {hsem : DmaTarget.Typed (nD := nD) sp' (SemLoc.dma sem) (DmaTarget.here (p := Proc.scVector c i) a)}
    {N : ℕ} (hN : a.view.amount (SemLoc.dma sem) = N) (hN0 : 0 < N) (q : PosShare TreeShare) (fx : Buf (Elt F) (src.view.loc (V d c i))) :
    iprop(hole d c i a ∗ rest d c i sem ∗ (src.view.loc (V d c i) ↦[Finset.univ]{q} fx))
      ⊢ runs d c i (Prog.lift (.enqueueDma src (.here a) (.dma sem) hsrc hdst hsem))
          fun _ => flying d c i sem N iprop(full d c i a (src.view.read (Elt F) fx) ∗ (src.view.loc (V d c i) ↦[Finset.univ]{q} fx)) := by
  unfold hole
  iintro ⟨⟨%fd, Ha⟩, Hv, Hx⟩
  ihave Hx' := (pointsTo_split_subset (Finset.subset_univ src.view.set)).1 $$ Hx
  icases Hx' with ⟨Hs, Hr⟩
  iapply (Transfers.wp_dmaLocal EC 𝒱₀ (V d c i) none none N hN hN0 (Finset.Subset.refl _)) $$ [Ha Hv Hs]
  · isplitl [Hs]; · iexact Hs
    isplitl [Ha]; · iexact Ha
    iexact Hv
  iintro HF
  iapply (le_wp_ret _ _ _ _ _)
  ihave HF' := (flying_frame d c i sem N _ _) $$ [HF Hr]
  · isplitl [HF]; · iexact HF
    iexact Hr
  iapply (Flight_mono EC (V d c i) ?_) $$ HF'
  unfold full
  iintro ⟨⟨Ha, Hs⟩, Hr⟩
  isplitl [Ha]
  · iexists (a.view.write (Elt F) fd (ReadAs.same.apply (src.view.read (Elt F) fx)) Finset.univ); isplitr
    · ipureintro; exact View.read_write_univ _ _
    · iexact Ha
  · iapply (pointsTo_split_subset (Finset.subset_univ src.view.set)).2
    isplitl [Hs]; · iexact Hs
    iexact Hr

/-- A tile issues a transfer of a filled buffer to a block of an array in hand: in flight, it delivers the block at
    contents `G` that the destination reads as the buffer was, and the buffer back. -/
theorem issue_out {a : Memref sig .scVector sp' s e} {dst : Memref sig .scVector sp s e} {sem : DmaSem sig}
    {hsrc : a.view.WordExact} {hdst : dst.view.WordExact} {hsem : DmaTarget.Typed (nD := nD) sp' (SemLoc.dma sem) (DmaTarget.here (p := Proc.scVector c i) dst)}
    {N : ℕ} (hN : dst.view.amount (SemLoc.dma sem) = N) (hN0 : 0 < N) (X : s.Idx → Elt F e)
    (B : Finset (Idx (dst.view.loc (V d c i)))) (hB : dst.view.set = B)
    (f₀ G : Buf (Elt F) (dst.view.loc (V d c i))) (hG : dst.view.read (Elt F) G = X) :
    iprop(full d c i a X ∗ rest d c i sem ∗ (dst.view.loc (V d c i) ↦[B]{fullShare} f₀))
      ⊢ runs d c i (Prog.lift (.enqueueDma a (.here dst) (.dma sem) hsrc hdst hsem))
          fun _ => flying d c i sem N iprop((dst.view.loc (V d c i) ↦[B]{fullShare} G) ∗ hole d c i a) := by
  subst hB
  unfold full
  iintro ⟨⟨%f, %hf, Ha⟩, Hv, Ho⟩
  iapply (Transfers.wp_dmaLocal EC 𝒱₀ (V d c i) none none N hN hN0 (Finset.Subset.refl _)) $$ [Ha Hv Ho]
  · isplitl [Ha]; · iexact Ha
    isplitl [Ho]; · iexact Ho
    iexact Hv
  iintro HF
  iapply (le_wp_ret _ _ _ _ _)
  iapply (Flight_mono EC (V d c i) ?_) $$ HF
  unfold hole
  iintro ⟨Ho, Ha⟩
  isplitl [Ho]
  · iapply (Entails.of_eq (pointsTo_congr ?_)) $$ Ho
    intro j hj
    obtain ⟨x, -, rfl⟩ := Finset.mem_map.mp hj
    refine View.eq_of_read_eq ?_
    rw [View.read_write_of_mem _ _ (Finset.mem_univ x), hG]
    exact congrFun hf x
  · iexists f; iexact Ha

/-- What a tile's waits need: the evidence that it may wait, and what it owes. -/
def Due (O : CellTallies nD τ sig (HIx 1)) (W : Waits sig (HIx 1)) : sProp 𝕄 :=
  iprop(MayWaits (V d c i) (none : HIx 1) O ∗ Owes d c i O W)

theorem wait_due (O : CellTallies nD τ sig (HIx 1)) (W : Waits sig (HIx 1)) {κ' : Kind} {sem : DmaSem sig}
    {srcw : Memref sig .scVector sp' s' e'} {dstw : Memref sig κ' sp s e} {hsrc : srcw.view.WordExact} {hdst : dstw.view.WordExact}
    {N : ℕ} (hN : dstw.view.dmaCredit = N) (R : sProp 𝕄) :
    iprop(flying d c i sem N R ∗ Due d c i O W)
      ⊢ runs d c i (Prog.lift (.waitDma2 sem srcw dstw hsrc hdst)) fun _ => iprop(R ∗ rest d c i sem ∗ Due d c i O W) := by
  unfold Due
  iintro ⟨HF, #Hmw, HO⟩
  iapply (wp_wand_r _ _ _)
  isplitl [HF HO]
  · iapply (wait_flying d c i O W hN R)
    isplitr; · iexact Hmw
    isplitl [HF]; · iexact HF
    iexact HO
  iintro %x ⟨HR, Hv, HO⟩
  isplitl [HR]; · iexact HR
  isplitl [Hv]; · iexact Hv
  isplitr; · iexact Hmw
  iexact HO

/-- One program after another. -/
theorem runs_bind {α β : Type} {p : Prog (TpuEff nD τ sig (Elt F) Λ₀ (.scVector c i)) α} {k : α → Prog (TpuEff nD τ sig (Elt F) Λ₀ (.scVector c i)) β}
    {R : α → sProp 𝕄} {Q : β → sProp 𝕄} : iprop(runs d c i p R ∗ (∀ x, R x -∗ runs d c i (k x) Q)) ⊢ runs d c i (p >>= k) Q := by
  unfold runs
  rw [wp_bind]
  exact wp_wand_r _ _ _

/-- A program that comes after one that runs under a condition. -/
theorem runs_opt {α β : Type} {p : Prop} [Decidable p] {q : p → Prog (TpuEff nD τ sig (Elt F) Λ₀ (.scVector c i)) α}
    {E : Prog (TpuEff nD τ sig (Elt F) Λ₀ (.scVector c i)) β} {P R : sProp 𝕄} {Q : β → sProp 𝕄}
    (hq : ∀ h, P ⊢ runs d c i (q h) fun _ => R) (hn : ¬p → P ⊢ R) :
    iprop(P ∗ (R -∗ runs d c i E Q)) ⊢ runs d c i (if h : p then (q h >>= fun _ => E) else E) Q := by
  by_cases h : p
  · rw [dif_pos h]
    iintro ⟨HP, HE⟩
    iapply (runs_bind d c i)
    isplitl [HP]
    · iapply (hq h); iexact HP
    iintro %_x HR
    iapply HE; iexact HR
  · rw [dif_neg h]
    iintro ⟨HP, HE⟩
    iapply HE
    iapply (hn h); iexact HP

end Cert.Proof.Sc

end
-- ==== Proof.Offsets.lean ====
/-
  The kernel's integer arithmetic in closed form: the items of each tile, the trip counts of its loops, its branch
  conditions, and the offsets of the blocks it moves.
-/
module

public import proofs.«01_k».proof.Proof.Gen.KernelIdeal
public import proofs.«01_k».proof.Proof.Gen.KernelIdeal.Skeleton

@[expose] public section

set_option maxRecDepth 65536

noncomputable section

namespace Cert.Proof.Sc

open Cert.KernelIdeal Cert.KernelIdeal.Gen
open Idealize.ShloMosaic

/-- The number of a tile: subcore-major, the two cores alternating. -/
def wid (L : grid0.Coords) : ℕ := 2 * (L 1).val + (L 0).val
/-- The first item of a tile in the copy of planes 1 to 4; -/
def lo (L : grid0.Coords) : ℕ := wid L * 25 / 2
/-- how many items it has there; -/
def cnt (L : grid0.Coords) : ℕ := (wid L + 1) * 25 / 2 - wid L * 25 / 2
/-- and its first item in the conversion of its plane. -/
def base (L : grid0.Coords) : ℕ := wid L % 16 * 25

/-- Where item `n` of the copy is read, -/
def krSrc (n : ℕ) : Fin 3 → ℕ := ![1, n / 2, n % 2 * 8192]
/-- and where it is written. -/
def krDst (n : ℕ) : Fin 3 → ℕ := ![n / 2, 0, n % 2 * 8192]
/-- Where item `n` of the conversion of plane `p` is read, -/
def cvSrc (p n : ℕ) : Fin 3 → ℕ := ![p, n / 16 * 8, n % 16 * 1024]
/-- and where it is written. -/
def cvDst (n : ℕ) : Fin 3 → ℕ := ![n / 16 * 8, 0, n % 16 * 1024]

theorem cond1_eq : ∀ L : grid0.Coords, k0_cond1 L = 1#1 := by decide +kernel
theorem t1_trips : ∀ L : grid0.Coords, (k0_t1_loop L).trips = cnt L := by decide +kernel
theorem t2_trips : ∀ L : grid0.Coords, (k0_t2_loop L).trips = 0 := by decide +kernel
theorem off1_eq : ∀ L : grid0.Coords, k0_off1 L = krSrc (lo L) := by decide +kernel

theorem cond2_iff : ∀ (L : grid0.Coords) (k : Fin (k0_t1_loop L).trips), k0_cond2 L k = 1#1 ↔ k.val % 2 = 0 := by decide +kernel
theorem cond3_iff : ∀ (L : grid0.Coords) (k : Fin (k0_t1_loop L).trips), k0_cond3 L k = 1#1 ↔ 0 < k.val := by decide +kernel
theorem cond4_iff : ∀ (L : grid0.Coords) (k : Fin (k0_t1_loop L).trips), k0_cond4 L k = 1#1 ↔ k.val + 1 < cnt L := by decide +kernel
theorem cond5_iff : ∀ (L : grid0.Coords) (k : Fin (k0_t1_loop L).trips), k0_cond5 L k = 1#1 ↔ k.val % 2 = 1 := by decide +kernel
theorem cond6_iff : ∀ (L : grid0.Coords) (k : Fin (k0_t1_loop L).trips), k0_cond6 L k = 1#1 ↔ 0 < k.val := by decide +kernel
theorem cond7_iff : ∀ (L : grid0.Coords) (k : Fin (k0_t1_loop L).trips), k0_cond7 L k = 1#1 ↔ k.val + 1 < cnt L := by decide +kernel
theorem off4_eq : ∀ (L : grid0.Coords) (k : Fin (k0_t1_loop L).trips), k0_off4 L k = krSrc (lo L + k.val + 1) := by decide +kernel
theorem off5_eq : ∀ (L : grid0.Coords) (k : Fin (k0_t1_loop L).trips), k0_off5 L k = krDst (lo L + k.val) := by decide +kernel
theorem off8_eq : ∀ (L : grid0.Coords) (k : Fin (k0_t1_loop L).trips), k0_off8 L k = krSrc (lo L + k.val + 1) := by decide +kernel
theorem off9_eq : ∀ (L : grid0.Coords) (k : Fin (k0_t1_loop L).trips), k0_off9 L k = krDst (lo L + k.val) := by decide +kernel
theorem cond14_iff : ∀ L : grid0.Coords, k0_cond14 L = 1#1 ↔ cnt L % 2 = 1 := by decide +kernel
theorem cond15_iff : ∀ L : grid0.Coords, k0_cond15 L = 1#1 ↔ cnt L % 2 = 0 := by decide +kernel

theorem cond16_iff : ∀ L : grid0.Coords, k0_cond16 L = 1#1 ↔ wid L < 16 := by decide +kernel
theorem cond23_iff : ∀ L : grid0.Coords, k0_cond23 L = 1#1 ↔ 16 ≤ wid L := by decide +kernel
theorem t3_trips : k0_t3_loop.trips = 25 := by decide +kernel
theorem t4_trips : k0_t4_loop.trips = 64 := by decide +kernel
theorem t5_trips : k0_t5_loop.trips = 64 := by decide +kernel
theorem t6_trips : k0_t6_loop.trips = 25 := by decide +kernel
theorem t7_trips : k0_t7_loop.trips = 64 := by decide +kernel
theorem t8_trips : k0_t8_loop.trips = 64 := by decide +kernel

theorem cond17_iff : ∀ k : Fin k0_t3_loop.trips, k0_cond17 k = 1#1 ↔ k.val % 2 = 0 := by decide +kernel
theorem cond18_iff : ∀ k : Fin k0_t3_loop.trips, k0_cond18 k = 1#1 ↔ k.val + 1 < 25 := by decide +kernel
theorem cond19_iff : ∀ k : Fin k0_t3_loop.trips, k0_cond19 k = 1#1 ↔ 2 ≤ k.val := by decide +kernel
theorem cond20_iff : ∀ k : Fin k0_t3_loop.trips, k0_cond20 k = 1#1 ↔ k.val % 2 = 1 := by decide +kernel
theorem cond21_iff : ∀ k : Fin k0_t3_loop.trips, k0_cond21 k = 1#1 ↔ k.val + 1 < 25 := by decide +kernel
theorem cond22_iff : ∀ k : Fin k0_t3_loop.trips, k0_cond22 k = 1#1 ↔ 2 ≤ k.val := by decide +kernel
theorem cond24_iff : ∀ k : Fin k0_t6_loop.trips, k0_cond24 k = 1#1 ↔ k.val % 2 = 0 := by decide +kernel
theorem cond25_iff : ∀ k : Fin k0_t6_loop.trips, k0_cond25 k = 1#1 ↔ k.val + 1 < 25 := by decide +kernel
theorem cond26_iff : ∀ k : Fin k0_t6_loop.trips, k0_cond26 k = 1#1 ↔ 2 ≤ k.val := by decide +kernel
theorem cond27_iff : ∀ k : Fin k0_t6_loop.trips, k0_cond27 k = 1#1 ↔ k.val % 2 = 1 := by decide +kernel
theorem cond28_iff : ∀ k : Fin k0_t6_loop.trips, k0_cond28 k = 1#1 ↔ k.val + 1 < 25 := by decide +kernel
theorem cond29_iff : ∀ k : Fin k0_t6_loop.trips, k0_cond29 k = 1#1 ↔ 2 ≤ k.val := by decide +kernel

theorem off20_eq : ∀ L : grid0.Coords, k0_off20 L = cvSrc 0 (base L) := by decide +kernel
theorem off22_eq : ∀ (L : grid0.Coords) (k : Fin k0_t3_loop.trips), k0_off22 L k = cvSrc 0 (base L + k.val + 1) := by decide +kernel
theorem off32_eq : ∀ (L : grid0.Coords) (k : Fin k0_t3_loop.trips), k0_off32 L k = cvDst (base L + k.val) := by decide +kernel
theorem off34_eq : ∀ (L : grid0.Coords) (k : Fin k0_t3_loop.trips), k0_off34 L k = cvSrc 0 (base L + k.val + 1) := by decide +kernel
theorem off44_eq : ∀ (L : grid0.Coords) (k : Fin k0_t3_loop.trips), k0_off44 L k = cvDst (base L + k.val) := by decide +kernel
theorem off46_eq : ∀ L : grid0.Coords, k0_off46 L = cvSrc 5 (base L) := by decide +kernel
theorem off48_eq : ∀ (L : grid0.Coords) (k : Fin k0_t6_loop.trips), k0_off48 L k = cvSrc 5 (base L + k.val + 1) := by decide +kernel
theorem off58_eq : ∀ (L : grid0.Coords) (k : Fin k0_t6_loop.trips), k0_off58 L k = cvDst (base L + k.val) := by decide +kernel
theorem off60_eq : ∀ (L : grid0.Coords) (k : Fin k0_t6_loop.trips), k0_off60 L k = cvSrc 5 (base L + k.val + 1) := by decide +kernel
theorem off70_eq : ∀ (L : grid0.Coords) (k : Fin k0_t6_loop.trips), k0_off70 L k = cvDst (base L + k.val) := by decide +kernel

/-- The eight rows of one trip of a conversion loop: row `r`, the trip's sixteen lanes. -/
def rowOff (r t : ℕ) : Fin 2 → ℕ := ![r, 16 * t]

theorem rows4_eq : ∀ t : Fin k0_t4_loop.trips, k0_off24 t = rowOff 0 t.val ∧ k0_off25 t = rowOff 1 t.val ∧ k0_off26 t = rowOff 2 t.val
    ∧ k0_off27 t = rowOff 3 t.val ∧ k0_off28 t = rowOff 4 t.val ∧ k0_off29 t = rowOff 5 t.val ∧ k0_off30 t = rowOff 6 t.val
    ∧ k0_off31 t = rowOff 7 t.val := by decide +kernel
theorem rows5_eq : ∀ t : Fin k0_t5_loop.trips, k0_off36 t = rowOff 0 t.val ∧ k0_off37 t = rowOff 1 t.val ∧ k0_off38 t = rowOff 2 t.val
    ∧ k0_off39 t = rowOff 3 t.val ∧ k0_off40 t = rowOff 4 t.val ∧ k0_off41 t = rowOff 5 t.val ∧ k0_off42 t = rowOff 6 t.val
    ∧ k0_off43 t = rowOff 7 t.val := by decide +kernel
theorem rows7_eq : ∀ t : Fin k0_t7_loop.trips, k0_off50 t = rowOff 0 t.val ∧ k0_off51 t = rowOff 1 t.val ∧ k0_off52 t = rowOff 2 t.val
    ∧ k0_off53 t = rowOff 3 t.val ∧ k0_off54 t = rowOff 4 t.val ∧ k0_off55 t = rowOff 5 t.val ∧ k0_off56 t = rowOff 6 t.val
    ∧ k0_off57 t = rowOff 7 t.val := by decide +kernel
theorem rows8_eq : ∀ t : Fin k0_t8_loop.trips, k0_off62 t = rowOff 0 t.val ∧ k0_off63 t = rowOff 1 t.val ∧ k0_off64 t = rowOff 2 t.val
    ∧ k0_off65 t = rowOff 3 t.val ∧ k0_off66 t = rowOff 4 t.val ∧ k0_off67 t = rowOff 5 t.val ∧ k0_off68 t = rowOff 6 t.val
    ∧ k0_off69 t = rowOff 7 t.val := by decide +kernel

end Cert.Proof.Sc

end
-- ==== Proof.Convert.lean ====
/-
  The conversion of one block: eight rows of sixteen lanes per trip, each lane converted to an integer by truncation
  toward zero; after 64 trips every lane of the block is converted.
-/
module

public import proofs.«01_k».proof.Proof.Blocks
public import proofs.«01_k».proof.Proof.Offsets

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]

/-- One element converted. -/
def fi (x : Elt F .f32) : Elt F .i32 := FloatOps.fptosi 32 x

/-- The block `Y` holds the conversion of `X` in the lanes below `16 t`, and in those below `16 (t + 1)` of the rows
    below `r`. -/
def Done (X : S8x1024.Idx → Elt F .f32) (t r : ℕ) (Y : S8x1024.Idx → Elt F .i32) : Prop :=
  ∀ j, ((j 1).val < 16 * t ∨ ((j 1).val < 16 * (t + 1) ∧ (j 0).val < r)) → Y j = fi (X j)

/-- After eight rows the trip is done. -/
theorem Done.next {X : S8x1024.Idx → Elt F .f32} {t : ℕ} {Y : S8x1024.Idx → Elt F .i32} (h : Done X t 8 Y) : Done X (t + 1) 0 Y :=
  fun j hj => h j (by
    have h0 : (j 0).val < 8 := (j 0).isLt
    rcases hj with hj | ⟨-, hj⟩
    · exact .inr ⟨hj, h0⟩
    · exact absurd hj (Nat.not_lt_zero _))

/-- After 64 trips the block is the conversion. -/
theorem Done.all {X : S8x1024.Idx → Elt F .f32} {Y : S8x1024.Idx → Elt F .i32} (h : Done X 64 0 Y) : Y = fun j => fi (X j) :=
  funext fun j => h j (.inl (by have h1 : (j 1).val < 1024 := (j 1).isLt; omega))

/-- Before the first trip nothing is asked. -/
theorem Done.zero (X : S8x1024.Idx → Elt F .f32) (Y : S8x1024.Idx → Elt F .i32) : Done X 0 0 Y :=
  fun _ hj => by rcases hj with hj | ⟨-, hj⟩ <;> exact absurd hj (Nat.not_lt_zero _)

variable (d : Dev nD) (c : Fin τ.nSC) (i : Fin τ.nSub)

/-- The conversion of sixteen lanes of one row: read, convert, write. -/
abbrev cvtRow (a : Memref sig .scVector .vmem S8x1024 .f32) (b : Memref sig .scVector .vmem S8x1024 .i32) (off : Fin 2 → ℕ)
    (inb : ∀ x, off x + S1x16.size x ≤ S8x1024.size x) : Prog (TpuEff nD τ sig (Elt F) Λ₀ (.scVector c i)) PUnit := do
  let ld : Vec F S1x16 .f32 ← Prog.lift (.load a (Rect.unit (s := S8x1024) off S1x16.size inb).toLoadRect (View.loadsAt_vmem h_S1x16))
  let _ : Vec F S1x16 .i32 ← Prog.lift (.load b (Rect.unit (s := S8x1024) off S1x16.size inb).toLoadRect (View.loadsAt_vmem h_S1x16))
  Prog.lift (.store b (Rect.unit (s := S8x1024) off S1x16.size inb)
    (shapeCast S1x16 (fptosi 32 (shapeCast S16 ld shapeCasts_S1x16_S16) : IVec S16 32) shapeCasts_S16_S1x16) Finset.univ
    (View.stores_vmem_bits_univ h_S1x16 rfl) (.inl rfl))

/-- The block in hand, the conversion having come to row `r` of trip `t`. -/
def progress (b : Memref sig .scVector .vmem S8x1024 .i32) (X : S8x1024.Idx → Elt F .f32) (t r : ℕ) : sProp 𝕄 :=
  iprop(∃ Y, ⌜Done X t r Y⌝ ∗ full d c i b Y)

theorem cvtRow_runs (a : Memref sig .scVector .vmem S8x1024 .f32) (b : Memref sig .scVector .vmem S8x1024 .i32) (off : Fin 2 → ℕ)
    (inb : ∀ x, off x + S1x16.size x ≤ S8x1024.size x) (X : S8x1024.Idx → Elt F .f32) (t r : ℕ) (ho : off = rowOff r t) :
    iprop(full d c i a X ∗ progress d c i b X t r)
      ⊢ runs d c i (cvtRow c i a b off inb) fun _ => iprop(full d c i a X ∗ progress d c i b X t (r + 1)) := by
  unfold progress full
  iintro ⟨⟨%f, %hf, Ha⟩, %Y, %hY, %g, %hg, Hb⟩
  iapply (wp_load_rect 𝒱₀ (V d c i) none Set.univ (m := a) (r := Rect.unit (s := S8x1024) off S1x16.size inb) (S := a.view.set)
    (View.set_slice_subset _ _)) $$ Ha
  iintro Ha
  iapply (wp_load_rect 𝒱₀ (V d c i) none Set.univ (m := b) (r := Rect.unit (s := S8x1024) off S1x16.size inb) (S := b.view.set)
    (View.set_slice_subset _ _)) $$ Hb
  iintro Hb
  iapply (wp_store 𝒱₀ (V d c i) none Set.univ (m := b) (r := Rect.unit (s := S8x1024) off S1x16.size inb) (S := b.view.set)
    ((View.setOn_subset_set _ _).trans (View.set_slice_subset _ _))) $$ Hb
  iintro Hb
  iapply (le_wp_ret _ _ _ _ _)
  isplitl [Ha]
  · iexists f; isplitr
    · ipureintro; exact hf
    · iexact Ha
  iexists (b.view.read (Elt F) ((b.access (Rect.unit (s := S8x1024) off S1x16.size inb)).write (Elt F) g
    (shapeCast S1x16 (fptosi 32 (shapeCast S16 ((a.access (Rect.unit (s := S8x1024) off S1x16.size inb)).read (Elt F) f) shapeCasts_S1x16_S16) : IVec S16 32) shapeCasts_S16_S1x16) Finset.univ))
  isplitr
  · ipureintro
    intro j hj
    by_cases hm : j ∈ (Rect.unit (s := S8x1024) off S1x16.size inb).set
    · obtain ⟨x, rfl⟩ := (Rect.unit (s := S8x1024) off S1x16.size inb).exists_idx_of_mem hm
      refine (View.read_slice_write_emb (v := b.view) _ _ _ (Finset.mem_univ x)).trans ?_
      rw [← hf]
      exact congrArg (fun y => fi (a.view.read (Elt F) f ((Rect.unit (s := S8x1024) off S1x16.size inb).emb y)))
        ((Shape.reshapeEquiv_reshapeEquiv _ _ x).trans (Shape.reshapeEquiv_self _ x))
    · refine (View.read_slice_write_of_not_mem (v := b.view) _ _ _ _ (by rwa [Rect.map_emb_univ])).trans ?_
      rw [hg]
      refine hY j ?_
      rcases hj with hj | ⟨hj, hj0⟩
      · exact .inl hj
      · by_cases h1 : (j 1).val < 16 * t
        · exact .inl h1
        · refine .inr ⟨hj, lt_of_le_of_ne (Nat.lt_succ_iff.mp hj0) fun he => hm ?_⟩
          subst ho
          refine Rect.mem_set_unit.mpr (Fin.forall_fin_two.mpr ⟨⟨?_, ?_⟩, ?_, ?_⟩)
          · exact he.ge
          · exact Nat.lt_succ_of_le he.le
          · exact Nat.le_of_not_lt h1
          · show (j 1).val < 16 * t + 16; omega
  · iexists _; isplitr
    · ipureintro; rfl
    · iexact Hb

/-- One trip: the eight rows of one group of sixteen lanes. -/
abbrev cvtTrip (a : Memref sig .scVector .vmem S8x1024 .f32) (b : Memref sig .scVector .vmem S8x1024 .i32) (o0 o1 o2 o3 o4 o5 o6 o7 : Fin 2 → ℕ)
    (h0 : ∀ x, o0 x + S1x16.size x ≤ S8x1024.size x) (h1 : ∀ x, o1 x + S1x16.size x ≤ S8x1024.size x) (h2 : ∀ x, o2 x + S1x16.size x ≤ S8x1024.size x) (h3 : ∀ x, o3 x + S1x16.size x ≤ S8x1024.size x) (h4 : ∀ x, o4 x + S1x16.size x ≤ S8x1024.size x) (h5 : ∀ x, o5 x + S1x16.size x ≤ S8x1024.size x) (h6 : ∀ x, o6 x + S1x16.size x ≤ S8x1024.size x) (h7 : ∀ x, o7 x + S1x16.size x ≤ S8x1024.size x) :
    Prog (TpuEff nD τ sig (Elt F) Λ₀ (.scVector c i)) Unit := do
  cvtRow c i a b o0 h0
  cvtRow c i a b o1 h1
  cvtRow c i a b o2 h2
  cvtRow c i a b o3 h3
  cvtRow c i a b o4 h4
  cvtRow c i a b o5 h5
  cvtRow c i a b o6 h6
  cvtRow c i a b o7 h7
  pure ⟨⟩

/-- One program after another. -/
theorem runs_seq {α β : Type} {p : Prog (TpuEff nD τ sig (Elt F) Λ₀ (.scVector c i)) α} {k : α → Prog (TpuEff nD τ sig (Elt F) Λ₀ (.scVector c i)) β}
    {P : sProp 𝕄} {R : α → sProp 𝕄} {Q : β → sProp 𝕄} (h : P ⊢ runs d c i p R) (h' : ∀ x, R x ⊢ runs d c i (k x) Q) :
    P ⊢ runs d c i (p >>= k) Q := by
  unfold runs at *
  rw [wp_bind]
  exact BIBase.Entails.trans h (wp_mono _ _ _ h')

theorem cvtTrip_runs (a : Memref sig .scVector .vmem S8x1024 .f32) (b : Memref sig .scVector .vmem S8x1024 .i32) (o0 o1 o2 o3 o4 o5 o6 o7 : Fin 2 → ℕ)
    (h0 : ∀ x, o0 x + S1x16.size x ≤ S8x1024.size x) (h1 : ∀ x, o1 x + S1x16.size x ≤ S8x1024.size x) (h2 : ∀ x, o2 x + S1x16.size x ≤ S8x1024.size x) (h3 : ∀ x, o3 x + S1x16.size x ≤ S8x1024.size x) (h4 : ∀ x, o4 x + S1x16.size x ≤ S8x1024.size x) (h5 : ∀ x, o5 x + S1x16.size x ≤ S8x1024.size x) (h6 : ∀ x, o6 x + S1x16.size x ≤ S8x1024.size x) (h7 : ∀ x, o7 x + S1x16.size x ≤ S8x1024.size x)
    (X : S8x1024.Idx → Elt F .f32) (t : ℕ) (ho : o0 = rowOff 0 t ∧ o1 = rowOff 1 t ∧ o2 = rowOff 2 t ∧ o3 = rowOff 3 t ∧ o4 = rowOff 4 t ∧ o5 = rowOff 5 t ∧ o6 = rowOff 6 t ∧ o7 = rowOff 7 t) :
    iprop(full d c i a X ∗ progress d c i b X t 0)
      ⊢ runs d c i (cvtTrip c i a b o0 o1 o2 o3 o4 o5 o6 o7 h0 h1 h2 h3 h4 h5 h6 h7) fun _ => iprop(full d c i a X ∗ progress d c i b X (t + 1) 0) := by
  obtain ⟨e0, e1, e2, e3, e4, e5, e6, e7⟩ := ho
  refine runs_seq d c i (cvtRow_runs d c i a b o0 h0 X t 0 e0) fun _ => ?_
  refine runs_seq d c i (cvtRow_runs d c i a b o1 h1 X t 1 e1) fun _ => ?_
  refine runs_seq d c i (cvtRow_runs d c i a b o2 h2 X t 2 e2) fun _ => ?_
  refine runs_seq d c i (cvtRow_runs d c i a b o3 h3 X t 3 e3) fun _ => ?_
  refine runs_seq d c i (cvtRow_runs d c i a b o4 h4 X t 4 e4) fun _ => ?_
  refine runs_seq d c i (cvtRow_runs d c i a b o5 h5 X t 5 e5) fun _ => ?_
  refine runs_seq d c i (cvtRow_runs d c i a b o6 h6 X t 6 e6) fun _ => ?_
  refine runs_seq d c i (cvtRow_runs d c i a b o7 h7 X t 7 e7) fun _ => ?_
  refine BIBase.Entails.trans ?_ (le_wp_ret _ _ _ _ _)
  unfold progress
  iintro ⟨Ha, %Y, %hY, Hb⟩
  isplitl [Ha]; · iexact Ha
  iexists Y; isplitr
  · ipureintro; exact hY.next
  · iexact Hb

/-- A loop of 64 such trips converts the block. -/
theorem cvtLoop_runs (a : Memref sig .scVector .vmem S8x1024 .f32) (b : Memref sig .scVector .vmem S8x1024 .i32) (l : Scf.Loop 32) (hl : l.trips = 64)
    (hok : l.OK) (body : Fin l.trips → Unit → Prog (TpuEff nD τ sig (Elt F) Λ₀ (.scVector c i)) Unit) (X : S8x1024.Idx → Elt F .f32)
    (hb : ∀ t x, iprop(full d c i a X ∗ progress d c i b X t.val 0) ⊢ runs d c i (body t x) fun _ => iprop(full d c i a X ∗ progress d c i b X (t.val + 1) 0)) :
    iprop(full d c i a X ∗ hole d c i b) ⊢ runs d c i (l.for hok ⟨⟩ body) fun _ => iprop(full d c i a X ∗ full d c i b fun j => fi (X j)) := by
  refine BIBase.Entails.trans ?_ (Scf.wp_for _ _ _ l.lb l.ub l.st hok ⟨⟩ body
    (fun t _ => iprop(full d c i a X ∗ progress d c i b X t 0)) hb)
  unfold progress hole
  iintro ⟨Ha, %f, Hb⟩
  isplitl [Ha Hb]
  · isplitl [Ha]; · iexact Ha
    iexists (b.view.read (Elt F) f); isplitr
    · ipureintro; exact Done.zero X _
    · unfold full; iexists f; isplitr
      · ipureintro; rfl
      · iexact Hb
  iintro %x ⟨Ha, %Y, %hY, Hb⟩
  isplitl [Ha]; · iexact Ha
  have e : Y = fun j => fi (X j) := Done.all (by have h := hY; rw [show Scf.trips l.lb l.ub l.st = 64 from hl] at h; exact h)
  subst e
  iexact Hb

end Cert.Proof.Sc

end
-- ==== Proof.Items.lean ====
/-
  The items of the kernel's two phases as pieces of the arrays: the elements of a range of items, how ranges split and
  join, and what one item's block of each array is and reads.
-/
module

public import proofs.«01_k».proof.Proof.Convert
public import Idealize.ShloMosaic.Lib.Pointwise

@[expose] public section

noncomputable section

namespace Cert.Proof.Sc

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## Ranges of items -/

/-- The elements of the items from `l` to below `h`, an array's elements being dealt to items by `item`. -/
def rng {s : Shape} (item : s.Idx → ℕ) (l h : ℕ) : Finset s.Idx := Finset.univ.filter fun j => l ≤ item j ∧ item j < h

theorem mem_rng {s : Shape} {item : s.Idx → ℕ} {l h : ℕ} {j : s.Idx} : j ∈ rng item l h ↔ l ≤ item j ∧ item j < h := by
  simp [rng]

theorem rng_union {s : Shape} (item : s.Idx → ℕ) {l m h : ℕ} (hl : l ≤ m) (hm : m ≤ h) : rng item l m ∪ rng item m h = rng item l h := by
  ext j; simp only [Finset.mem_union, mem_rng]; omega

theorem rng_disjoint {s : Shape} (item : s.Idx → ℕ) (l m m' h : ℕ) (hm : m ≤ m') : Disjoint (rng item l m) (rng item m' h) := by
  refine Finset.disjoint_left.mpr fun j hj hj' => ?_
  have h1 := (mem_rng.mp hj).2; have h2 := (mem_rng.mp hj').1; omega

theorem rng_empty {s : Shape} (item : s.Idx → ℕ) {l h : ℕ} (hl : h ≤ l) : rng item l h = ∅ :=
  Finset.eq_empty_of_forall_notMem fun j hj => by have := mem_rng.mp hj; omega

section Pieces

variable (d : Dev nD) (c : Fin τ.nSC) (i : Fin τ.nSub)
variable {s : Shape} {e : EltTy} (o : Memref sig .scVector .hbm s e) (item : s.Idx → ℕ)

/-- A range of items of an array in hand, at contents `f`. -/
abbrev pc (l h : ℕ) (f : Buf (Elt F) (o.view.loc (V d c i))) : sProp 𝕄 :=
  o.view.loc (V d c i) ↦[(rng item l h).map o.view.emb]{fullShare} f

theorem pc_split {l m h : ℕ} (hl : l ≤ m) (hm : m ≤ h) (f : Buf (Elt F) (o.view.loc (V d c i))) :
    pc d c i o item l h f ⊣⊢ iprop(pc d c i o item l m f ∗ pc d c i o item m h f) := by
  unfold pc
  rw [← rng_union item hl hm, Finset.map_union]
  exact pointsTo_union ((Finset.disjoint_map _).mpr (rng_disjoint item l m m h le_rfl))

theorem pc_empty {l h : ℕ} (hl : h ≤ l) (f : Buf (Elt F) (o.view.loc (V d c i))) : pc d c i o item l h f = iprop(emp) := by
  unfold pc
  rw [rng_empty item hl, Finset.map_empty]
  exact pointsTo_empty

end Pieces

/-! ## The copy's blocks -/

/-- The item an element of the copy's result belongs to. -/
def krItem (j : S200x4x16384.Idx) : ℕ := 2 * (j 0).val + (j 2).val / 8192

/-- The copy's source block, -/
abbrev krIn (x : Memref sig .scVector .hbm S9x200x16384 .f32) (off : Fin 3 → ℕ) (inb : ∀ a, off a + S4x1x8192.size a ≤ S9x200x16384.size a) :
    Memref sig .scVector .hbm S4x8192 .f32 :=
  (x.slice (Rect.unit (s := S9x200x16384) off S4x1x8192.size inb) (fun _ => rfl)).squeeze S4x8192 squeezes_S4x1x8192_S4x8192
/-- and its destination block. -/
abbrev krOut (o : Memref sig .scVector .hbm S200x4x16384 .f32) (off : Fin 3 → ℕ) (inb : ∀ a, off a + S1x4x8192.size a ≤ S200x4x16384.size a) :
    Memref sig .scVector .hbm S4x8192 .f32 :=
  (o.slice (Rect.unit (s := S200x4x16384) off S1x4x8192.size inb) (fun _ => rfl)).squeeze S4x8192 squeezes_S1x4x8192_S4x8192

/-- What the copy's result holds: planes 1 to 4, in the result's order of axes. -/
def krG (X : S9x200x16384.Idx → Elt F .f32) : S200x4x16384.Idx → Elt F .f32 :=
  fun j => X (ix3 ⟨1 + (j 1).val, by have h : (j 1).val < 4 := (j 1).isLt; omega⟩ (j 0) (j 2))

/-- The place in the result of element `y` of the copy's item `n`. -/
def krAt (n : ℕ) (y : S4x8192.Idx) : S200x4x16384.Idx :=
  ix3 ⟨n / 2 % 200, Nat.mod_lt _ (by decide)⟩ (y 0) ⟨n % 2 * 8192 + (y 1).val, by have h : (y 1).val < 8192 := (y 1).isLt; omega⟩

/-- The copy's item `n`. -/
def krBlk (X : S9x200x16384.Idx → Elt F .f32) (n : ℕ) : S4x8192.Idx → Elt F .f32 := fun y => krG X (krAt n y)

theorem krIn_read (x : Memref sig .scVector .hbm S9x200x16384 .f32) (off : Fin 3 → ℕ) (inb : ∀ a, off a + S4x1x8192.size a ≤ S9x200x16384.size a)
    {n : ℕ} (hn : n < 400) (ho : off = krSrc n) (fx : x.view.ty.Contents (Elt F)) :
    (krIn x off inb).view.read (Elt F) fx = krBlk (x.view.read (Elt F) fx) n := by
  subst ho
  funext y
  have e : Shape.reshapeEquiv (s := S4x1x8192) (s' := S4x8192) (Shape.Squeezes.numel_eq squeezes_S4x1x8192_S4x8192) y = (ix3 (y 0) ⟨0, Nat.one_pos⟩ (y 1) : S4x1x8192.Idx) :=
    Shape.reshapeEquiv_eq_of_rowMajor _ (by
      rw [Shape.rowMajor_val_three, Shape.rowMajor_val_two]
      show ((y 0).val * 1 + 0) * 8192 + (y 1).val = (y 0).val * 8192 + (y 1).val
      omega)
  show x.view.read (Elt F) fx ((Rect.unit (s := S9x200x16384) (krSrc n) S4x1x8192.size inb).emb (Shape.reshapeEquiv (s := S4x1x8192) (s' := S4x8192) (Shape.Squeezes.numel_eq squeezes_S4x1x8192_S4x8192) y)) = x.view.read (Elt F) fx _
  rw [e]
  refine congrArg _ (Shape.idx3_ext ?_ ?_ ?_)
  · show 1 + 1 * (y 0).val = 1 + (y 0).val; omega
  · show n / 2 + 1 * 0 = n / 2 % 200; omega
  · show n % 2 * 8192 + 1 * (y 1).val = n % 2 * 8192 + (y 1).val; omega

theorem krOut_read (o : Memref sig .scVector .hbm S200x4x16384 .f32) (off : Fin 3 → ℕ) (inb : ∀ a, off a + S1x4x8192.size a ≤ S200x4x16384.size a)
    {n : ℕ} (hn : n < 400) (ho : off = krDst n) (G : o.view.ty.Contents (Elt F)) (X : S9x200x16384.Idx → Elt F .f32) (hG : o.view.read (Elt F) G = krG X) :
    (krOut o off inb).view.read (Elt F) G = krBlk X n := by
  subst ho
  funext y
  have e : Shape.reshapeEquiv (s := S1x4x8192) (s' := S4x8192) (Shape.Squeezes.numel_eq squeezes_S1x4x8192_S4x8192) y = (ix3 ⟨0, Nat.one_pos⟩ (y 0) (y 1) : S1x4x8192.Idx) :=
    Shape.reshapeEquiv_eq_of_rowMajor _ (by
      rw [Shape.rowMajor_val_three, Shape.rowMajor_val_two]
      show (0 * 4 + (y 0).val) * 8192 + (y 1).val = (y 0).val * 8192 + (y 1).val
      omega)
  show o.view.read (Elt F) G ((Rect.unit (s := S200x4x16384) (krDst n) S1x4x8192.size inb).emb (Shape.reshapeEquiv (s := S1x4x8192) (s' := S4x8192) (Shape.Squeezes.numel_eq squeezes_S1x4x8192_S4x8192) y)) = _
  rw [e, hG]
  refine congrArg (krG X) (Shape.idx3_ext ?_ ?_ ?_)
  · show n / 2 + 1 * 0 = n / 2 % 200; omega
  · show 0 + 1 * (y 0).val = (y 0).val; omega
  · show n % 2 * 8192 + 1 * (y 1).val = n % 2 * 8192 + (y 1).val; omega

theorem krOut_set (o : Memref sig .scVector .hbm S200x4x16384 .f32) (off : Fin 3 → ℕ) (inb : ∀ a, off a + S1x4x8192.size a ≤ S200x4x16384.size a)
    {n : ℕ} (ho : off = krDst n) : (krOut o off inb).view.set = (rng krItem n (n + 1)).map o.view.emb := by
  subst ho
  refine (View.set_reshape _ _).trans ((View.set_slice _ _).trans (congrArg _ ?_))
  ext j
  rw [Rect.mem_set_unit, mem_rng]
  unfold krItem
  have h1 : (j 1).val < 4 := (j 1).isLt
  have h2 : (j 2).val < 16384 := (j 2).isLt
  constructor
  · intro h
    have a0 : n / 2 ≤ (j 0).val ∧ (j 0).val < n / 2 + 1 := h 0
    have a2 : n % 2 * 8192 ≤ (j 2).val ∧ (j 2).val < n % 2 * 8192 + 8192 := h 2
    omega
  · intro h a
    match a with
    | ⟨0, _⟩ => show n / 2 ≤ (j 0).val ∧ (j 0).val < n / 2 + 1; omega
    | ⟨1, _⟩ => show 0 ≤ (j 1).val ∧ (j 1).val < 0 + 4; omega
    | ⟨2, _⟩ => show n % 2 * 8192 ≤ (j 2).val ∧ (j 2).val < n % 2 * 8192 + 8192; omega

/-! ## The conversion's blocks -/

/-- The item an element of a converted plane belongs to. -/
def cvItem (j : S200x1x16384.Idx) : ℕ := (j 0).val / 8 * 16 + (j 2).val / 1024

/-- The conversion's source block, -/
abbrev cvIn (x : Memref sig .scVector .hbm S9x200x16384 .f32) (off : Fin 3 → ℕ) (inb : ∀ a, off a + S1x8x1024.size a ≤ S9x200x16384.size a) :
    Memref sig .scVector .hbm S8x1024 .f32 :=
  (x.slice (Rect.unit (s := S9x200x16384) off S1x8x1024.size inb) (fun _ => rfl)).squeeze S8x1024 squeezes_S1x8x1024_S8x1024
/-- and its destination block. -/
abbrev cvOut (o : Memref sig .scVector .hbm S200x1x16384 .i32) (off : Fin 3 → ℕ) (inb : ∀ a, off a + S8x1x1024.size a ≤ S200x1x16384.size a) :
    Memref sig .scVector .hbm S8x1024 .i32 :=
  (o.slice (Rect.unit (s := S200x1x16384) off S8x1x1024.size inb) (fun _ => rfl)).squeeze S8x1024 squeezes_S8x1x1024_S8x1024

/-- Plane `p` in the converted plane's order of axes. -/
def plane (X : S9x200x16384.Idx → Elt F .f32) (p : Fin 9) : S200x1x16384.Idx → Elt F .f32 := fun j => X (ix3 p (j 0) (j 2))

/-- What the conversion's result holds: plane `p`, each element converted. -/
def cvG [FloatOps F] (X : S9x200x16384.Idx → Elt F .f32) (p : Fin 9) : S200x1x16384.Idx → Elt F .i32 := fun j => fi (plane X p j)

/-- The place in the plane of element `y` of the conversion's item `n`. -/
def cvAt (n : ℕ) (y : S8x1024.Idx) : S200x1x16384.Idx :=
  ix3 ⟨(n / 16 * 8 + (y 0).val) % 200, Nat.mod_lt _ (by decide)⟩ ⟨0, Nat.one_pos⟩
    ⟨n % 16 * 1024 + (y 1).val, by have h : (y 1).val < 1024 := (y 1).isLt; omega⟩

/-- The conversion's item `n`, before it is converted. -/
def cvBlk (X : S9x200x16384.Idx → Elt F .f32) (p : Fin 9) (n : ℕ) : S8x1024.Idx → Elt F .f32 := fun y => plane X p (cvAt n y)

theorem cvIn_read (x : Memref sig .scVector .hbm S9x200x16384 .f32) (off : Fin 3 → ℕ) (inb : ∀ a, off a + S1x8x1024.size a ≤ S9x200x16384.size a)
    (p : Fin 9) {n : ℕ} (hn : n < 400) (ho : off = cvSrc p.val n) (fx : x.view.ty.Contents (Elt F)) :
    (cvIn x off inb).view.read (Elt F) fx = cvBlk (x.view.read (Elt F) fx) p n := by
  subst ho
  funext y
  have e : Shape.reshapeEquiv (s := S1x8x1024) (s' := S8x1024) (Shape.Squeezes.numel_eq squeezes_S1x8x1024_S8x1024) y = (ix3 ⟨0, Nat.one_pos⟩ (y 0) (y 1) : S1x8x1024.Idx) :=
    Shape.reshapeEquiv_eq_of_rowMajor _ (by
      rw [Shape.rowMajor_val_three, Shape.rowMajor_val_two]
      show (0 * 8 + (y 0).val) * 1024 + (y 1).val = (y 0).val * 1024 + (y 1).val
      omega)
  show x.view.read (Elt F) fx ((Rect.unit (s := S9x200x16384) (cvSrc p.val n) S1x8x1024.size inb).emb (Shape.reshapeEquiv (s := S1x8x1024) (s' := S8x1024) (Shape.Squeezes.numel_eq squeezes_S1x8x1024_S8x1024) y)) = x.view.read (Elt F) fx _
  rw [e]
  have h0 : (y 0).val < 8 := (y 0).isLt
  refine congrArg _ (Shape.idx3_ext ?_ ?_ ?_)
  · show p.val + 1 * 0 = p.val; omega
  · show n / 16 * 8 + 1 * (y 0).val = (n / 16 * 8 + (y 0).val) % 200; omega
  · show n % 16 * 1024 + 1 * (y 1).val = n % 16 * 1024 + (y 1).val; omega

theorem cvOut_read [FloatOps F] (o : Memref sig .scVector .hbm S200x1x16384 .i32) (off : Fin 3 → ℕ) (inb : ∀ a, off a + S8x1x1024.size a ≤ S200x1x16384.size a)
    {n : ℕ} (hn : n < 400) (ho : off = cvDst n) (G : o.view.ty.Contents (Elt F)) (X : S9x200x16384.Idx → Elt F .f32) (p : Fin 9)
    (hG : o.view.read (Elt F) G = cvG X p) :
    (cvOut o off inb).view.read (Elt F) G = fun y => fi (cvBlk X p n y) := by
  subst ho
  funext y
  have e : Shape.reshapeEquiv (s := S8x1x1024) (s' := S8x1024) (Shape.Squeezes.numel_eq squeezes_S8x1x1024_S8x1024) y = (ix3 (y 0) ⟨0, Nat.one_pos⟩ (y 1) : S8x1x1024.Idx) :=
    Shape.reshapeEquiv_eq_of_rowMajor _ (by
      rw [Shape.rowMajor_val_three, Shape.rowMajor_val_two]
      show ((y 0).val * 1 + 0) * 1024 + (y 1).val = (y 0).val * 1024 + (y 1).val
      omega)
  show o.view.read (Elt F) G ((Rect.unit (s := S200x1x16384) (cvDst n) S8x1x1024.size inb).emb (Shape.reshapeEquiv (s := S8x1x1024) (s' := S8x1024) (Shape.Squeezes.numel_eq squeezes_S8x1x1024_S8x1024) y)) = _
  rw [e, hG]
  have h0 : (y 0).val < 8 := (y 0).isLt
  refine congrArg (cvG X p) (Shape.idx3_ext ?_ ?_ ?_)
  · show n / 16 * 8 + 1 * (y 0).val = (n / 16 * 8 + (y 0).val) % 200; omega
  · show 0 + 1 * 0 = 0; omega
  · show n % 16 * 1024 + 1 * (y 1).val = n % 16 * 1024 + (y 1).val; omega

theorem cvOut_set (o : Memref sig .scVector .hbm S200x1x16384 .i32) (off : Fin 3 → ℕ) (inb : ∀ a, off a + S8x1x1024.size a ≤ S200x1x16384.size a)
    {n : ℕ} (ho : off = cvDst n) : (cvOut o off inb).view.set = (rng cvItem n (n + 1)).map o.view.emb := by
  subst ho
  refine (View.set_reshape _ _).trans ((View.set_slice _ _).trans (congrArg _ ?_))
  ext j
  rw [Rect.mem_set_unit, mem_rng]
  unfold cvItem
  have h1 : (j 1).val < 1 := (j 1).isLt
  have h2 : (j 2).val < 16384 := (j 2).isLt
  constructor
  · intro h
    have a0 : n / 16 * 8 ≤ (j 0).val ∧ (j 0).val < n / 16 * 8 + 8 := h 0
    have a2 : n % 16 * 1024 ≤ (j 2).val ∧ (j 2).val < n % 16 * 1024 + 1024 := h 2
    omega
  · intro h a
    match a with
    | ⟨0, _⟩ => show n / 16 * 8 ≤ (j 0).val ∧ (j 0).val < n / 16 * 8 + 8; omega
    | ⟨1, _⟩ => show 0 ≤ (j 1).val ∧ (j 1).val < 0 + 1; omega
    | ⟨2, _⟩ => show n % 16 * 1024 ≤ (j 2).val ∧ (j 2).val < n % 16 * 1024 + 1024; omega

end Cert.Proof.Sc

end
-- ==== Proof.KrRing.lean ====
/-
  The copy of planes 1 to 4 by one tile: a ring of two buffers, each item in flight into one of them while the item
  before it is in flight out of the other.
-/
module

public import proofs.«01_k».proof.Proof.Items

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.Transfers (Flight Flight_mono MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]
variable (d : Dev nD) (c : Fin τ.nSC) (i : Fin τ.nSub)

/-- One trip's half for one buffer: wait for the item; wait for the other buffer's item to be out; issue the next item into
    the other buffer; issue this one out; then go on with `E`. -/
def krHalf (x : Memref sig .scVector .hbm S9x200x16384 .f32) (o : Memref sig .scVector .hbm S200x4x16384 .f32)
    (a a' : Memref sig .scVector .vmem S4x8192 .f32) (ha : a.view.WordExact) (ha' : a'.view.WordExact) (si si' so so' : DmaSem sig)
    (P3 P4 : Prop) [Decidable P3] [Decidable P4] (o2 : Fin 3 → ℕ) (i2 : ∀ a, o2 a + S4x1x8192.size a ≤ S9x200x16384.size a)
    (o3 : Fin 3 → ℕ) (i3 : P3 → ∀ a, o3 a + S1x4x8192.size a ≤ S200x4x16384.size a)
    (o4 : Fin 3 → ℕ) (i4 : P4 → ∀ a, o4 a + S4x1x8192.size a ≤ S9x200x16384.size a)
    (o5 : Fin 3 → ℕ) (i5 : ∀ a, o5 a + S1x4x8192.size a ≤ S200x4x16384.size a)
    (E : Prog (TpuEff nD τ sig (Elt F) Λ₀ (.scVector c i)) Unit) : Prog (TpuEff nD τ sig (Elt F) Λ₀ (.scVector c i)) Unit := do
  Prog.lift (.waitDma2 si (krIn x o2 i2) a ((View.wordExact_bits rfl).reshape _ _) ha)
  if h3 : P3 then do
    Prog.lift (.waitDma2 so' a' (krOut o o3 (i3 h3)) ha' ((View.wordExact_bits rfl).reshape _ _))
    pure ⟨⟩
  else do
    pure ⟨⟩
  if h4 : P4 then do
    Prog.lift (.enqueueDma (krIn x o4 (i4 h4)) (.here a') (.dma si') ((View.wordExact_bits rfl).reshape _ _) ha' ⟨Or.inl rfl, trivial⟩)
    pure ⟨⟩
  else do
    pure ⟨⟩
  Prog.lift (.enqueueDma a (.here (krOut o o5 i5)) (.dma so) ha ((View.wordExact_bits rfl).reshape _ _) ⟨Or.inl rfl, trivial⟩)
  E

/-- The units of one item's transfer. -/
abbrev krN : ℕ := RefSig.kindCredit RefSig.tileCredit RefSig.tileCredit_eq_zero RefSig.tileCredit_pos .scVector S4x8192 .f32

theorem krN_pos : 0 < krN := RefSig.kindCredit_pos _ _ _ (fun _ => 1) .scVector .hbm 0 S4x8192 .f32 (by decide)

section Ring

variable (x : Memref sig .scVector .hbm S9x200x16384 .f32) (o : Memref sig .scVector .hbm S200x4x16384 .f32)
variable (q : PosShare TreeShare) (fx : Buf (Elt F) (x.view.loc (V d c i))) (f₀ G : Buf (Elt F) (o.view.loc (V d c i)))
variable (l n : ℕ) (O : CellTallies nD τ sig (HIx 1)) (W : Waits sig (HIx 1))

/-- A tile's share of the input. -/
abbrev xShare : sProp 𝕄 := x.view.loc (V d c i) ↦[Finset.univ]{q} fx

/-- The ring before trip `k`, its turn being buffer `a`'s: item `k` in flight into `a`, item `k - 1` in flight out of `a'`, the
    items before that in place. -/
def krInv (a a' : Memref sig .scVector .vmem S4x8192 .f32) (si si' so so' : DmaSem sig) (k : ℕ) : sProp 𝕄 :=
  iprop(slot d c i (k < n) si krN iprop(full d c i a (krBlk (x.view.read (Elt F) fx) (l + k)) ∗ xShare d c i x q fx) iprop(hole d c i a ∗ xShare d c i x q fx)
    ∗ rest d c i si' ∗ rest d c i so
    ∗ slot d c i (0 < k) so' krN iprop(pc d c i o krItem (l + (k - 1)) (l + k) G ∗ hole d c i a') (hole d c i a')
    ∗ pc d c i o krItem l (l + (k - 1)) G ∗ pc d c i o krItem (l + k) (l + n) f₀ ∗ Due d c i O W)

/-- A half trip takes the ring from item `k` to item `k + 1`, the buffers changing roles. -/
theorem krHalf_runs (hn : l + n ≤ 400) (hG : o.view.read (Elt F) G = krG (x.view.read (Elt F) fx))
    (a a' : Memref sig .scVector .vmem S4x8192 .f32) (ha : a.view.WordExact) (ha' : a'.view.WordExact) (si si' so so' : DmaSem sig)
    (P3 P4 : Prop) [Decidable P3] [Decidable P4] (o2 : Fin 3 → ℕ) (i2 : ∀ a, o2 a + S4x1x8192.size a ≤ S9x200x16384.size a)
    (o3 : Fin 3 → ℕ) (i3 : P3 → ∀ a, o3 a + S1x4x8192.size a ≤ S200x4x16384.size a)
    (o4 : Fin 3 → ℕ) (i4 : P4 → ∀ a, o4 a + S4x1x8192.size a ≤ S9x200x16384.size a)
    (o5 : Fin 3 → ℕ) (i5 : ∀ a, o5 a + S1x4x8192.size a ≤ S200x4x16384.size a)
    {k : ℕ} (hk : k < n) (h3 : P3 ↔ 0 < k) (h4 : P4 ↔ k + 1 < n) (e4 : o4 = krSrc (l + k + 1)) (e5 : o5 = krDst (l + k))
    (E : Prog (TpuEff nD τ sig (Elt F) Λ₀ (.scVector c i)) Unit) (Q : Unit → sProp 𝕄) :
    iprop(krInv d c i x o q fx f₀ G l n O W a a' si si' so so' k
        ∗ (krInv d c i x o q fx f₀ G l n O W a' a si' si so' so (k + 1) -∗ runs d c i E Q))
      ⊢ runs d c i (krHalf c i x o a a' ha ha' si si' so so' P3 P4 o2 i2 o3 i3 o4 i4 o5 i5 E) Q := by
  unfold krInv krHalf
  dsimp only
  rw [slot_pos d c i hk]
  iintro ⟨⟨Hin, Hsi', Hso, Hout, Hdone, Hrest, Hdue⟩, HE⟩
  iapply (runs_bind d c i)
  isplitl [Hin Hdue]
  · iapply (wait_due d c i O W (N := krN) rfl _)
    isplitl [Hin]; · iexact Hin
    iexact Hdue
  iintro %_y ⟨⟨Ha, Hx⟩, Hsi, Hdue⟩
  iapply (runs_opt d c i (R := iprop(rest d c i so' ∗ hole d c i a' ∗ pc d c i o krItem l (l + k) G ∗ Due d c i O W))
    (P := iprop(slot d c i (0 < k) so' krN iprop(pc d c i o krItem (l + (k - 1)) (l + k) G ∗ hole d c i a') (hole d c i a')
      ∗ pc d c i o krItem l (l + (k - 1)) G ∗ Due d c i O W)) ?_ ?_)
  · intro h
    have hk0 := h3.mp h
    rw [slot_pos d c i hk0]
    iintro ⟨Hout, Hdone, Hdue⟩
    iapply (wp_wand_r _ _ _)
    isplitl [Hout Hdue]
    · iapply (wait_due d c i O W (N := krN) rfl _)
      isplitl [Hout]; · iexact Hout
      iexact Hdue
    iintro %_y ⟨⟨Hp, Ha'⟩, Hso', Hdue⟩
    isplitl [Hso']; · iexact Hso'
    isplitl [Ha']; · iexact Ha'
    isplitr [Hdue]
    · iapply (pc_split d c i o krItem (m := l + (k - 1)) (by omega) (by omega) G).2
      isplitl [Hdone]; · iexact Hdone
      iexact Hp
    · iexact Hdue
  · intro h
    have hk0 : ¬0 < k := fun h' => h (h3.mpr h')
    obtain rfl : k = 0 := by omega
    rw [slot_neg d c i hk0]
    iintro ⟨⟨Hso', Ha'⟩, Hdone, Hdue⟩
    isplitl [Hso']; · iexact Hso'
    isplitl [Ha']; · iexact Ha'
    isplitl [Hdone]; · iexact Hdone
    iexact Hdue
  isplitl [Hout Hdone Hdue]
  · isplitl [Hout]; · iexact Hout
    isplitl [Hdone]; · iexact Hdone
    iexact Hdue
  iintro ⟨Hso', Ha', Hdone, Hdue⟩
  iapply (runs_opt d c i (R := slot d c i (k + 1 < n) si' krN iprop(full d c i a' (krBlk (x.view.read (Elt F) fx) (l + (k + 1))) ∗ xShare d c i x q fx) iprop(hole d c i a' ∗ xShare d c i x q fx))
    (P := iprop(hole d c i a' ∗ rest d c i si' ∗ xShare d c i x q fx)) ?_ ?_)
  · intro h
    rw [slot_pos d c i (h4.mp h), ← krIn_read x o4 (i4 h) (n := l + (k + 1)) (by have := h4.mp h; omega) e4 fx]
    exact issue_in d c i (src := krIn x o4 (i4 h)) (a := a') (sem := si') (N := krN) rfl krN_pos q fx
  · intro h
    rw [slot_neg d c i (fun h' => h (h4.mpr h'))]
    iintro ⟨Ha', Hsi', Hx⟩
    isplitl [Hsi']; · iexact Hsi'
    isplitl [Ha']; · iexact Ha'
    iexact Hx
  isplitl [Ha' Hsi' Hx]
  · isplitl [Ha']; · iexact Ha'
    isplitl [Hsi']; · iexact Hsi'
    iexact Hx
  iintro Hin
  ihave Hr := (pc_split d c i o krItem (l := l + k) (m := l + (k + 1)) (h := l + n) (by omega) (by omega) f₀).1 $$ Hrest
  icases Hr with ⟨Hp, Hrest⟩
  iapply (runs_bind d c i)
  isplitl [Ha Hso Hp]
  · iapply (issue_out d c i (N := krN) rfl krN_pos (krBlk (x.view.read (Elt F) fx) (l + k)) _ (krOut_set o o5 i5 e5) f₀ G
      (krOut_read o o5 i5 (by omega) e5 G _ hG))
    isplitl [Ha]; · iexact Ha
    isplitl [Hso]; · iexact Hso
    iexact Hp
  iintro %_y Hfly
  iapply HE
  rw [slot_pos d c i (Nat.succ_pos k)]
  isplitl [Hin]; · iexact Hin
  isplitl [Hsi]; · iexact Hsi
  isplitl [Hso']; · iexact Hso'
  isplitl [Hfly]; · iexact Hfly
  isplitl [Hdone]; · iexact Hdone
  isplitl [Hrest]; · iexact Hrest
  iexact Hdue

/-- After the last trip, the wait for the last item to be out leaves every item in place and all else as it was. -/
theorem krLast_runs (hn : 0 < n) (a a' : Memref sig .scVector .vmem S4x8192 .f32) (ha' : a'.view.WordExact) (si si' so so' : DmaSem sig)
    (o6 : Fin 3 → ℕ) (i6 : ∀ a, o6 a + S1x4x8192.size a ≤ S200x4x16384.size a) :
    krInv d c i x o q fx f₀ G l n O W a a' si si' so so' n
      ⊢ runs d c i (Prog.lift (.waitDma2 so' a' (krOut o o6 i6) ha' ((View.wordExact_bits rfl).reshape _ _)))
        fun _ => iprop(hole d c i a ∗ hole d c i a' ∗ rest d c i si ∗ rest d c i si' ∗ rest d c i so ∗ rest d c i so'
          ∗ xShare d c i x q fx ∗ pc d c i o krItem l (l + n) G ∗ Due d c i O W) := by
  unfold krInv
  rw [slot_neg d c i (Nat.lt_irrefl n), slot_pos d c i hn]
  iintro ⟨⟨Hsi, Ha, Hx⟩, Hsi', Hso, Hout, Hdone, -, Hdue⟩
  iapply (wp_wand_r _ _ _)
  isplitl [Hout Hdue]
  · iapply (wait_due d c i O W (N := krN) rfl _)
    isplitl [Hout]; · iexact Hout
    iexact Hdue
  iintro %_y ⟨⟨Hp, Ha'⟩, Hso', Hdue⟩
  isplitl [Ha]; · iexact Ha
  isplitl [Ha']; · iexact Ha'
  isplitl [Hsi]; · iexact Hsi
  isplitl [Hsi']; · iexact Hsi'
  isplitl [Hso]; · iexact Hso
  isplitl [Hso']; · iexact Hso'
  isplitl [Hx]; · iexact Hx
  isplitr [Hdue]
  · iapply (pc_split d c i o krItem (m := l + (n - 1)) (by omega) (by omega) G).2
    isplitl [Hdone]; · iexact Hdone
    iexact Hp
  iexact Hdue

end Ring

end Cert.Proof.Sc

end
-- ==== Proof.ConvRing.lean ====
/-
  The conversion of one plane by one tile: rings of two input and two output buffers; each item is in flight into one
  input buffer while the item before it is converted, and the two items before that are in flight out.
-/
module

public import proofs.«01_k».proof.Proof.KrRing

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.Transfers (Flight Flight_mono MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]
variable (d : Dev nD) (c : Fin τ.nSC) (i : Fin τ.nSub)

/-- One trip's half for one buffer: wait for the item; issue the next item into the other buffer; wait for the output buffer's
    item to be out; convert; issue this one out; then go on with `E`. -/
def cvHalf (x : Memref sig .scVector .hbm S9x200x16384 .f32) (o : Memref sig .scVector .hbm S200x1x16384 .i32)
    (a a' : Memref sig .scVector .vmem S8x1024 .f32) (b : Memref sig .scVector .vmem S8x1024 .i32)
    (ha : a.view.WordExact) (ha' : a'.view.WordExact) (hb : b.view.WordExact) (si si' so : DmaSem sig)
    (P2 P3 : Prop) [Decidable P2] [Decidable P3] (o1 : Fin 3 → ℕ) (i1 : ∀ a, o1 a + S1x8x1024.size a ≤ S9x200x16384.size a)
    (o2 : Fin 3 → ℕ) (i2 : P2 → ∀ a, o2 a + S1x8x1024.size a ≤ S9x200x16384.size a)
    (o3 : Fin 3 → ℕ) (i3 : P3 → ∀ a, o3 a + S8x1x1024.size a ≤ S200x1x16384.size a)
    (lp : Prog (TpuEff nD τ sig (Elt F) Λ₀ (.scVector c i)) Unit)
    (o4 : Fin 3 → ℕ) (i4 : ∀ a, o4 a + S8x1x1024.size a ≤ S200x1x16384.size a)
    (E : Prog (TpuEff nD τ sig (Elt F) Λ₀ (.scVector c i)) Unit) : Prog (TpuEff nD τ sig (Elt F) Λ₀ (.scVector c i)) Unit := do
  Prog.lift (.waitDma2 si (cvIn x o1 i1) a ((View.wordExact_bits rfl).reshape _ _) ha)
  if h2 : P2 then do
    Prog.lift (.enqueueDma (cvIn x o2 (i2 h2)) (.here a') (.dma si') ((View.wordExact_bits rfl).reshape _ _) ha' ⟨Or.inl rfl, trivial⟩)
    pure ⟨⟩
  else do
    pure ⟨⟩
  if h3 : P3 then do
    Prog.lift (.waitDma2 so b (cvOut o o3 (i3 h3)) hb ((View.wordExact_bits rfl).reshape _ _))
    pure ⟨⟩
  else do
    pure ⟨⟩
  lp
  Prog.lift (.enqueueDma b (.here (cvOut o o4 i4)) (.dma so) hb ((View.wordExact_bits rfl).reshape _ _) ⟨Or.inl rfl, trivial⟩)
  E

/-- The units of one item's transfer in, -/
abbrev cvN : ℕ := RefSig.kindCredit RefSig.tileCredit RefSig.tileCredit_eq_zero RefSig.tileCredit_pos .scVector S8x1024 .f32
/-- and out. -/
abbrev cvM : ℕ := RefSig.kindCredit RefSig.tileCredit RefSig.tileCredit_eq_zero RefSig.tileCredit_pos .scVector S8x1024 .i32

theorem cvN_pos : 0 < cvN := RefSig.kindCredit_pos _ _ _ (fun _ => 1) .scVector .hbm 0 S8x1024 .f32 (by decide)
theorem cvM_pos : 0 < cvM := RefSig.kindCredit_pos _ _ _ (fun _ => 1) .scVector .hbm 0 S8x1024 .i32 (by decide)

theorem slot_congr {p p' : Prop} [Decidable p] [Decidable p'] (h : p ↔ p') (sem : DmaSem sig) (N : ℕ) (R R' : sProp 𝕄) :
    slot d c i p sem N R R' = slot d c i p' sem N R R' := by
  unfold slot
  by_cases hp : p
  · rw [if_pos hp, if_pos (h.mp hp)]
  · rw [if_neg hp, if_neg (fun h' => hp (h.mpr h'))]

section Ring

variable (x : Memref sig .scVector .hbm S9x200x16384 .f32) (o : Memref sig .scVector .hbm S200x1x16384 .i32) (p : Fin 9)
variable (q : PosShare TreeShare) (fx : Buf (Elt F) (x.view.loc (V d c i))) (f₀ G : Buf (Elt F) (o.view.loc (V d c i)))
variable (l n : ℕ) (O : CellTallies nD τ sig (HIx 1)) (W : Waits sig (HIx 1))

/-- The ring before trip `k`, its turn being the buffers `a` and `b`: item `k` in flight into `a`, item `k - 2` in flight out of
    `b` and item `k - 1` out of `b'`, the items before those in place. -/
def cvInv (a a' : Memref sig .scVector .vmem S8x1024 .f32) (b b' : Memref sig .scVector .vmem S8x1024 .i32) (si si' so so' : DmaSem sig) (k : ℕ) : sProp 𝕄 :=
  iprop(slot d c i (k < n) si cvN iprop(full d c i a (cvBlk (x.view.read (Elt F) fx) p (l + k)) ∗ xShare d c i x q fx) iprop(hole d c i a ∗ xShare d c i x q fx)
    ∗ hole d c i a' ∗ rest d c i si'
    ∗ slot d c i (2 ≤ k) so cvM iprop(pc d c i o cvItem (l + (k - 2)) (l + (k - 1)) G ∗ hole d c i b) (hole d c i b)
    ∗ slot d c i (1 ≤ k) so' cvM iprop(pc d c i o cvItem (l + (k - 1)) (l + k) G ∗ hole d c i b') (hole d c i b')
    ∗ pc d c i o cvItem l (l + (k - 2)) G ∗ pc d c i o cvItem (l + k) (l + n) f₀ ∗ Due d c i O W)

/-- A half trip takes the ring from item `k` to item `k + 1`, the buffers changing roles. -/
theorem cvHalf_runs (hn : l + n ≤ 400) (hG : o.view.read (Elt F) G = cvG (x.view.read (Elt F) fx) p)
    (a a' : Memref sig .scVector .vmem S8x1024 .f32) (b b' : Memref sig .scVector .vmem S8x1024 .i32)
    (ha : a.view.WordExact) (ha' : a'.view.WordExact) (hb : b.view.WordExact) (si si' so so' : DmaSem sig)
    (P2 P3 : Prop) [Decidable P2] [Decidable P3] (o1 : Fin 3 → ℕ) (i1 : ∀ a, o1 a + S1x8x1024.size a ≤ S9x200x16384.size a)
    (o2 : Fin 3 → ℕ) (i2 : P2 → ∀ a, o2 a + S1x8x1024.size a ≤ S9x200x16384.size a)
    (o3 : Fin 3 → ℕ) (i3 : P3 → ∀ a, o3 a + S8x1x1024.size a ≤ S200x1x16384.size a)
    (lp : Prog (TpuEff nD τ sig (Elt F) Λ₀ (.scVector c i)) Unit)
    (hlp : ∀ X, iprop(full d c i a X ∗ hole d c i b) ⊢ runs d c i lp fun _ => iprop(full d c i a X ∗ full d c i b fun j => fi (X j)))
    (o4 : Fin 3 → ℕ) (i4 : ∀ a, o4 a + S8x1x1024.size a ≤ S200x1x16384.size a)
    {k : ℕ} (hk : k < n) (h2 : P2 ↔ k + 1 < n) (h3 : P3 ↔ 2 ≤ k) (e2 : o2 = cvSrc p.val (l + k + 1)) (e4 : o4 = cvDst (l + k))
    (E : Prog (TpuEff nD τ sig (Elt F) Λ₀ (.scVector c i)) Unit) (Q : Unit → sProp 𝕄) :
    iprop(cvInv d c i x o p q fx f₀ G l n O W a a' b b' si si' so so' k
        ∗ (cvInv d c i x o p q fx f₀ G l n O W a' a b' b si' si so' so (k + 1) -∗ runs d c i E Q))
      ⊢ runs d c i (cvHalf c i x o a a' b ha ha' hb si si' so P2 P3 o1 i1 o2 i2 o3 i3 lp o4 i4 E) Q := by
  unfold cvInv cvHalf
  dsimp only
  rw [slot_pos d c i hk]
  iintro ⟨⟨Hin, Ha', Hsi', Hout, Hout', Hdone, Hrest, Hdue⟩, HE⟩
  iapply (runs_bind d c i)
  isplitl [Hin Hdue]
  · iapply (wait_due d c i O W (N := cvN) rfl _)
    isplitl [Hin]; · iexact Hin
    iexact Hdue
  iintro %_y ⟨⟨Ha, Hx⟩, Hsi, Hdue⟩
  iapply (runs_opt d c i (R := slot d c i (k + 1 < n) si' cvN iprop(full d c i a' (cvBlk (x.view.read (Elt F) fx) p (l + (k + 1))) ∗ xShare d c i x q fx) iprop(hole d c i a' ∗ xShare d c i x q fx))
    (P := iprop(hole d c i a' ∗ rest d c i si' ∗ xShare d c i x q fx)) ?_ ?_)
  · intro h
    rw [slot_pos d c i (h2.mp h), ← cvIn_read x o2 (i2 h) p (n := l + (k + 1)) (by have := h2.mp h; omega) e2 fx]
    exact issue_in d c i (src := cvIn x o2 (i2 h)) (a := a') (sem := si') (N := cvN) rfl cvN_pos q fx
  · intro h
    rw [slot_neg d c i (fun h' => h (h2.mpr h'))]
    iintro ⟨Ha', Hsi', Hx⟩
    isplitl [Hsi']; · iexact Hsi'
    isplitl [Ha']; · iexact Ha'
    iexact Hx
  isplitl [Ha' Hsi' Hx]
  · isplitl [Ha']; · iexact Ha'
    isplitl [Hsi']; · iexact Hsi'
    iexact Hx
  iintro Hin
  iapply (runs_opt d c i (R := iprop(rest d c i so ∗ hole d c i b ∗ pc d c i o cvItem l (l + (k - 1)) G ∗ Due d c i O W))
    (P := iprop(slot d c i (2 ≤ k) so cvM iprop(pc d c i o cvItem (l + (k - 2)) (l + (k - 1)) G ∗ hole d c i b) (hole d c i b)
      ∗ pc d c i o cvItem l (l + (k - 2)) G ∗ Due d c i O W)) ?_ ?_)
  · intro h
    have hk0 := h3.mp h
    rw [slot_pos d c i hk0]
    iintro ⟨Hout, Hdone, Hdue⟩
    iapply (wp_wand_r _ _ _)
    isplitl [Hout Hdue]
    · iapply (wait_due d c i O W (N := cvM) rfl _)
      isplitl [Hout]; · iexact Hout
      iexact Hdue
    iintro %_y ⟨⟨Hp, Hb⟩, Hso, Hdue⟩
    isplitl [Hso]; · iexact Hso
    isplitl [Hb]; · iexact Hb
    isplitr [Hdue]
    · iapply (pc_split d c i o cvItem (m := l + (k - 2)) (by omega) (by omega) G).2
      isplitl [Hdone]; · iexact Hdone
      iexact Hp
    · iexact Hdue
  · intro h
    have hk0 : ¬2 ≤ k := fun h' => h (h3.mpr h')
    rw [slot_neg d c i hk0, show k - 2 = k - 1 by omega]
    iintro ⟨⟨Hso, Hb⟩, Hdone, Hdue⟩
    isplitl [Hso]; · iexact Hso
    isplitl [Hb]; · iexact Hb
    isplitl [Hdone]; · iexact Hdone
    iexact Hdue
  isplitl [Hout Hdone Hdue]
  · isplitl [Hout]; · iexact Hout
    isplitl [Hdone]; · iexact Hdone
    iexact Hdue
  iintro ⟨Hso, Hb, Hdone, Hdue⟩
  iapply (runs_bind d c i)
  isplitl [Ha Hb]
  · iapply (hlp _)
    isplitl [Ha]; · iexact Ha
    iexact Hb
  iintro %_y ⟨Ha, Hb⟩
  ihave Hr := (pc_split d c i o cvItem (l := l + k) (m := l + (k + 1)) (h := l + n) (by omega) (by omega) f₀).1 $$ Hrest
  icases Hr with ⟨Hp, Hrest⟩
  iapply (runs_bind d c i)
  isplitl [Hb Hso Hp]
  · iapply (issue_out d c i (N := cvM) rfl cvM_pos (fun j => fi (cvBlk (x.view.read (Elt F) fx) p (l + k) j)) _ (cvOut_set o o4 i4 e4) f₀ G
      (cvOut_read o o4 i4 (by omega) e4 G _ p hG))
    isplitl [Hb]; · iexact Hb
    isplitl [Hso]; · iexact Hso
    iexact Hp
  iintro %_y Hfly
  ihave Ha := (full_hole d c i a _) $$ Ha
  iapply HE
  rw [slot_pos d c i (show 1 ≤ k + 1 by omega), slot_congr d c i (show 2 ≤ k + 1 ↔ 1 ≤ k by omega), show k + 1 - 2 = k - 1 by omega,
    show k + 1 - 1 = k by omega]
  isplitl [Hin]; · iexact Hin
  isplitl [Ha]; · iexact Ha
  isplitl [Hsi]; · iexact Hsi
  isplitl [Hout']; · iexact Hout'
  isplitl [Hfly]; · iexact Hfly
  isplitl [Hdone]; · iexact Hdone
  isplitl [Hrest]; · iexact Hrest
  iexact Hdue

/-- What the conversion works with, its items of the result at contents `f`. -/
def cvRes (a a' : Memref sig .scVector .vmem S8x1024 .f32) (b b' : Memref sig .scVector .vmem S8x1024 .i32) (si si' so so' : DmaSem sig)
    (f : Buf (Elt F) (o.view.loc (V d c i))) : sProp 𝕄 :=
  iprop(hole d c i a ∗ hole d c i a' ∗ hole d c i b ∗ hole d c i b' ∗ rest d c i si ∗ rest d c i si' ∗ rest d c i so ∗ rest d c i so'
    ∗ xShare d c i x q fx ∗ pc d c i o cvItem l (l + n) f ∗ Due d c i O W)

/-- The ring before trip `k`: the even buffers' turn or the odd ones'. -/
def cvRing (a a' : Memref sig .scVector .vmem S8x1024 .f32) (b b' : Memref sig .scVector .vmem S8x1024 .i32) (si si' so so' : DmaSem sig) (k : ℕ) : sProp 𝕄 :=
  if k % 2 = 0 then cvInv d c i x o p q fx f₀ G l n O W a a' b b' si si' so so' k
  else cvInv d c i x o p q fx f₀ G l n O W a' a b' b si' si so' so k

/-- The conversion of one plane up to its last item's end: start the first item, run the trips, wait for the last item but one. -/
def cvMain {α : Type} (a : Memref sig .scVector .vmem S8x1024 .f32) (b' : Memref sig .scVector .vmem S8x1024 .i32)
    (ha : a.view.WordExact) (hb' : b'.view.WordExact) (si so' : DmaSem sig)
    (o1 : Fin 3 → ℕ) (i1 : ∀ a, o1 a + S1x8x1024.size a ≤ S9x200x16384.size a) (lp : Scf.Loop 32) (hok : lp.OK)
    (body : Fin lp.trips → Unit → Prog (TpuEff nD τ sig (Elt F) Λ₀ (.scVector c i)) Unit)
    (o2 : Fin 3 → ℕ) (i2 : ∀ a, o2 a + S8x1x1024.size a ≤ S200x1x16384.size a) (r : α) : Prog (TpuEff nD τ sig (Elt F) Λ₀ (.scVector c i)) α := do
  Prog.lift (.enqueueDma (cvIn x o1 i1) (.here a) (.dma si) ((View.wordExact_bits rfl).reshape _ _) ha ⟨Or.inl rfl, trivial⟩)
  Scf.Loop.for lp hok ⟨⟩ body
  Prog.lift (.waitDma2 so' b' (cvOut o o2 i2) hb' ((View.wordExact_bits rfl).reshape _ _))
  pure r

/-- The conversion puts the tile's items in place and leaves all else as it was. -/
theorem cv_runs {α β : Type} (hn : l + n ≤ 400) (hn1 : n % 2 = 1) (hn2 : 2 ≤ n)
    (a a' : Memref sig .scVector .vmem S8x1024 .f32) (b b' : Memref sig .scVector .vmem S8x1024 .i32) (si si' so so' : DmaSem sig)
    (ha : a.view.WordExact) (hb : b.view.WordExact) (hb' : b'.view.WordExact)
    (o1 : Fin 3 → ℕ) (i1 : ∀ a, o1 a + S1x8x1024.size a ≤ S9x200x16384.size a) (e1 : o1 = cvSrc p.val l) (lp : Scf.Loop 32) (hok : lp.OK) (hlp : lp.trips = n)
    (body : Fin lp.trips → Unit → Prog (TpuEff nD τ sig (Elt F) Λ₀ (.scVector c i)) Unit)
    (hbody : ∀ k y, cvRing d c i x o p q fx f₀ G l n O W a a' b b' si si' so so' k.val
      ⊢ runs d c i (body k y) fun _ => cvRing d c i x o p q fx f₀ G l n O W a a' b b' si si' so so' (k.val + 1))
    (o2 : Fin 3 → ℕ) (i2 : ∀ a, o2 a + S8x1x1024.size a ≤ S200x1x16384.size a)
    (o3 : Fin 3 → ℕ) (i3 : ∀ a, o3 a + S8x1x1024.size a ≤ S200x1x16384.size a) (r : α)
    (E : Prog (TpuEff nD τ sig (Elt F) Λ₀ (.scVector c i)) β) (Q : β → sProp 𝕄) :
    iprop(cvRes d c i x o q fx l n O W a a' b b' si si' so so' f₀
        ∗ (cvRes d c i x o q fx l n O W a a' b b' si si' so so' G -∗ runs d c i E Q))
      ⊢ runs d c i (cvMain c i x o a b' ha hb' si so' o1 i1 lp hok body o2 i2 r >>= fun _ =>
          Prog.lift (.waitDma2 so b (cvOut o o3 i3) hb ((View.wordExact_bits rfl).reshape _ _)) >>= fun _ => E) Q := by
  unfold cvMain cvRes
  iintro ⟨⟨Ha, Ha', Hb, Hb', Hsi, Hsi', Hso, Hso', Hx, Ho, Hdue⟩, HE⟩
  iapply (runs_bind d c i (R := fun _ => iprop(hole d c i a ∗ hole d c i a' ∗ hole d c i b' ∗ rest d c i si ∗ rest d c i si' ∗ rest d c i so' ∗ xShare d c i x q fx
    ∗ flying d c i so cvM iprop(pc d c i o cvItem (l + (n - 1)) (l + n) G ∗ hole d c i b) ∗ pc d c i o cvItem l (l + (n - 1)) G ∗ Due d c i O W)))
  isplitr [HE]
  · iapply (runs_bind d c i)
    isplitl [Ha Hsi Hx]
    · iapply (issue_in d c i (src := cvIn x o1 i1) (a := a) (sem := si) (N := cvN) rfl cvN_pos q fx)
      isplitl [Ha]; · iexact Ha
      isplitl [Hsi]; · iexact Hsi
      iexact Hx
    iintro %_y Hin
    rw [cvIn_read x o1 i1 p (n := l) (by omega) e1 fx]
    iapply (runs_bind d c i (R := fun _ => cvRing d c i x o p q fx f₀ G l n O W a a' b b' si si' so so' n))
    isplitr []
    · rw [← hlp]
      iapply (Scf.wp_for _ _ _ lp.lb lp.ub lp.st hok ⟨⟩ _ (fun k _ => cvRing d c i x o p q fx f₀ G l lp.trips O W a a' b b' si si' so so' k)
        (by subst hlp; exact hbody) (Q := fun _ => cvRing d c i x o p q fx f₀ G l lp.trips O W a a' b b' si si' so so' lp.trips))
      isplitr []
      · subst hlp
        unfold cvRing cvInv
        rw [if_pos rfl, slot_pos d c i (show 0 < lp.trips by omega), slot_neg d c i (show ¬2 ≤ 0 by omega), slot_neg d c i (show ¬1 ≤ 0 by omega),
          pc_empty d c i o cvItem (show l + (0 - 2) ≤ l by omega)]
        isplitl [Hin]; · iexact Hin
        isplitl [Ha']; · iexact Ha'
        isplitl [Hsi']; · iexact Hsi'
        isplitl [Hso Hb]
        · isplitl [Hso]; · iexact Hso
          iexact Hb
        isplitl [Hso' Hb']
        · isplitl [Hso']; · iexact Hso'
          iexact Hb'
        isplitr [Ho Hdue]; · iempintro
        isplitl [Ho]; · iexact Ho
        iexact Hdue
      · iintro %_y H
        iexact H
    iintro %_y
    unfold cvRing cvInv
    rw [if_neg (show ¬n % 2 = 0 by omega), slot_neg d c i (show ¬n < n by omega), slot_pos d c i hn2, slot_pos d c i (show 1 ≤ n by omega)]
    iintro ⟨⟨Hsi', Ha', Hx⟩, Ha, Hsi, Hout', Hout, Hdone, -, Hdue⟩
    iapply (runs_bind d c i)
    isplitl [Hout' Hdue]
    · iapply (wait_due d c i O W (N := cvM) rfl _)
      isplitl [Hout']; · iexact Hout'
      iexact Hdue
    iintro %_y ⟨⟨Hp, Hb'⟩, Hso', Hdue⟩
    iapply (le_wp_ret _ _ _ _ _)
    ihave Hdone := (pc_split d c i o cvItem (l := l) (m := l + (n - 2)) (h := l + (n - 1)) (by omega) (by omega) G).2 $$ [Hdone Hp]
    · isplitl [Hdone]; · iexact Hdone
      iexact Hp
    isplitl [Ha]; · iexact Ha
    isplitl [Ha']; · iexact Ha'
    isplitl [Hb']; · iexact Hb'
    isplitl [Hsi]; · iexact Hsi
    isplitl [Hsi']; · iexact Hsi'
    isplitl [Hso']; · iexact Hso'
    isplitl [Hx]; · iexact Hx
    isplitl [Hout]; · iexact Hout
    isplitl [Hdone]; · iexact Hdone
    iexact Hdue
  iintro %_y ⟨Ha, Ha', Hb', Hsi, Hsi', Hso', Hx, Hout, Hdone, Hdue⟩
  iapply (runs_bind d c i)
  isplitl [Hout Hdue]
  · iapply (wait_due d c i O W (N := cvM) rfl _)
    isplitl [Hout]; · iexact Hout
    iexact Hdue
  iintro %_y ⟨⟨Hp, Hb⟩, Hso, Hdue⟩
  iapply HE
  ihave Hdone := (pc_split d c i o cvItem (l := l) (m := l + (n - 1)) (h := l + n) (by omega) (by omega) G).2 $$ [Hdone Hp]
  · isplitl [Hdone]; · iexact Hdone
    iexact Hp
  isplitl [Ha]; · iexact Ha
  isplitl [Ha']; · iexact Ha'
  isplitl [Hb]; · iexact Hb
  isplitl [Hb']; · iexact Hb'
  isplitl [Hsi]; · iexact Hsi
  isplitl [Hsi']; · iexact Hsi'
  isplitl [Hso]; · iexact Hso
  isplitl [Hso']; · iexact Hso'
  isplitl [Hx]; · iexact Hx
  isplitl [Hdone]; · iexact Hdone
  iexact Hdue

end Ring

end Cert.Proof.Sc

end
-- ==== Proof.Loops.lean ====
/-
  The four conversion loops of the kernel, one for each block buffer and each of the two planes: each converts its block.
-/
module

public import proofs.«01_k».proof.Proof.Convert

@[expose] public section

noncomputable section

namespace Cert.Proof.Sc

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]
variable (d : Dev nD) (L : grid0.Coords)

/-- The tile's SparseCore and its number there. -/
abbrev tc (L : grid0.Coords) : Fin τ.nSC := (L 0).castLE hcore0
abbrev ti (L : grid0.Coords) : Fin τ.nSub := (L 1).castLE hsub0

variable (arg2 : Memref sig .scVector .hbm S9x200x16384 .f32) (harg2 : arg2.IsWhole) (arg3 : Memref sig .scVector .hbm S200x1x16384 .i32)
variable (harg3 : arg3.IsWhole) (arg4 : Memref sig .scVector .hbm S200x4x16384 .f32) (harg4 : arg4.IsWhole)
variable (arg5 : Memref sig .scVector .hbm S200x1x16384 .i32) (harg5 : arg5.IsWhole) (arg6 : Memref sig .scVector .vmem S4x8192 .f32)
variable (harg6 : arg6.IsWhole) (arg7 : Memref sig .scVector .vmem S4x8192 .f32) (harg7 : arg7.IsWhole)
variable (arg8 : Memref sig .scVector .vmem S8x1024 .f32) (harg8 : arg8.IsWhole) (arg9 : Memref sig .scVector .vmem S8x1024 .f32)
variable (harg9 : arg9.IsWhole) (arg10 : Memref sig .scVector .vmem S8x1024 .i32) (harg10 : arg10.IsWhole)
variable (arg11 : Memref sig .scVector .vmem S8x1024 .i32) (harg11 : arg11.IsWhole) (arg12 : DmaSems sig S_) (arg13 : DmaSems sig S_)
variable (arg14 : DmaSems sig S_) (arg15 : DmaSems sig S_) (arg16 : DmaSems sig S_) (arg17 : DmaSems sig S_) (arg18 : DmaSems sig S_)
variable (arg19 : DmaSems sig S_)

set_option maxRecDepth 65536 in
/-- The conversion loop of plane 0, first buffer. -/
theorem t4_runs (v1 : BitVec 32) (h : k0_cond16 L = 1#1) (k : Fin k0_t3_loop.trips) (h' : k0_cond17 k = 1#1) (X : S8x1024.Idx → Elt F .f32) :
    iprop(full d (tc L) (ti L) arg8 X ∗ hole d (tc L) (ti L) arg10)
      ⊢ runs d (tc L) (ti L) (k0_t4_loop.for (k0_t4_ok L k h h') ⟨⟩ (k0_t4_body L arg2 harg2 arg3 harg3 arg4 harg4 arg5 harg5 arg6 harg6 arg7 harg7 arg8 harg8 arg9 harg9 arg10 harg10 arg11 harg11 arg12 arg13 arg14 arg15 arg16 arg17 arg18 arg19 v1 h k h'))
        fun _ => iprop(full d (tc L) (ti L) arg8 X ∗ full d (tc L) (ti L) arg10 fun j => fi (X j)) :=
  cvtLoop_runs d _ _ arg8 arg10 _ t4_trips _ _ X fun t x => by
    have e : k0_t4_body L arg2 harg2 arg3 harg3 arg4 harg4 arg5 harg5 arg6 harg6 arg7 harg7 arg8 harg8 arg9 harg9 arg10 harg10 arg11 harg11 arg12 arg13 arg14 arg15 arg16 arg17 arg18 arg19 v1 h k h' t x
        = cvtTrip (F := F) (tc L) (ti L) arg8 arg10 (k0_off24 t) (k0_off25 t) (k0_off26 t) (k0_off27 t) (k0_off28 t) (k0_off29 t) (k0_off30 t) (k0_off31 t)
          (k0_off24_inb L k t h h') (k0_off25_inb L k t h h') (k0_off26_inb L k t h h') (k0_off27_inb L k t h h') (k0_off28_inb L k t h h') (k0_off29_inb L k t h h') (k0_off30_inb L k t h h') (k0_off31_inb L k t h h') := by
      unfold k0_t4_body; rw [k0_part1_eq_skeleton, k0_part2_eq_skeleton]; rfl
    rw [e]; exact cvtTrip_runs d _ _ arg8 arg10 _ _ _ _ _ _ _ _ _ _ _ _ _ _ _ _ X t.val (rows4_eq t)

set_option maxRecDepth 65536 in
/-- The conversion loop of plane 0, second buffer. -/
theorem t5_runs (v1 : BitVec 32) (h : k0_cond16 L = 1#1) (k : Fin k0_t3_loop.trips) (h' : k0_cond20 k = 1#1) (X : S8x1024.Idx → Elt F .f32) :
    iprop(full d (tc L) (ti L) arg9 X ∗ hole d (tc L) (ti L) arg11)
      ⊢ runs d (tc L) (ti L) (k0_t5_loop.for (k0_t5_ok L k h h') ⟨⟩ (k0_t5_body L arg2 harg2 arg3 harg3 arg4 harg4 arg5 harg5 arg6 harg6 arg7 harg7 arg8 harg8 arg9 harg9 arg10 harg10 arg11 harg11 arg12 arg13 arg14 arg15 arg16 arg17 arg18 arg19 v1 h k h'))
        fun _ => iprop(full d (tc L) (ti L) arg9 X ∗ full d (tc L) (ti L) arg11 fun j => fi (X j)) :=
  cvtLoop_runs d _ _ arg9 arg11 _ t5_trips _ _ X fun t x => by
    have e : k0_t5_body L arg2 harg2 arg3 harg3 arg4 harg4 arg5 harg5 arg6 harg6 arg7 harg7 arg8 harg8 arg9 harg9 arg10 harg10 arg11 harg11 arg12 arg13 arg14 arg15 arg16 arg17 arg18 arg19 v1 h k h' t x
        = cvtTrip (F := F) (tc L) (ti L) arg9 arg11 (k0_off36 t) (k0_off37 t) (k0_off38 t) (k0_off39 t) (k0_off40 t) (k0_off41 t) (k0_off42 t) (k0_off43 t)
          (k0_off36_inb L k t h h') (k0_off37_inb L k t h h') (k0_off38_inb L k t h h') (k0_off39_inb L k t h h') (k0_off40_inb L k t h h') (k0_off41_inb L k t h h') (k0_off42_inb L k t h h') (k0_off43_inb L k t h h') := by
      unfold k0_t5_body; rw [k0_part3_eq_skeleton, k0_part4_eq_skeleton]; rfl
    rw [e]; exact cvtTrip_runs d _ _ arg9 arg11 _ _ _ _ _ _ _ _ _ _ _ _ _ _ _ _ X t.val (rows5_eq t)

set_option maxRecDepth 65536 in
/-- The conversion loop of plane 5, first buffer. -/
theorem t7_runs (v1 : BitVec 32) (h : k0_cond23 L = 1#1) (k : Fin k0_t6_loop.trips) (h' : k0_cond24 k = 1#1) (X : S8x1024.Idx → Elt F .f32) :
    iprop(full d (tc L) (ti L) arg8 X ∗ hole d (tc L) (ti L) arg10)
      ⊢ runs d (tc L) (ti L) (k0_t7_loop.for (k0_t7_ok L k h h') ⟨⟩ (k0_t7_body L arg2 harg2 arg3 harg3 arg4 harg4 arg5 harg5 arg6 harg6 arg7 harg7 arg8 harg8 arg9 harg9 arg10 harg10 arg11 harg11 arg12 arg13 arg14 arg15 arg16 arg17 arg18 arg19 v1 h k h'))
        fun _ => iprop(full d (tc L) (ti L) arg8 X ∗ full d (tc L) (ti L) arg10 fun j => fi (X j)) :=
  cvtLoop_runs d _ _ arg8 arg10 _ t7_trips _ _ X fun t x => by
    have e : k0_t7_body L arg2 harg2 arg3 harg3 arg4 harg4 arg5 harg5 arg6 harg6 arg7 harg7 arg8 harg8 arg9 harg9 arg10 harg10 arg11 harg11 arg12 arg13 arg14 arg15 arg16 arg17 arg18 arg19 v1 h k h' t x
        = cvtTrip (F := F) (tc L) (ti L) arg8 arg10 (k0_off50 t) (k0_off51 t) (k0_off52 t) (k0_off53 t) (k0_off54 t) (k0_off55 t) (k0_off56 t) (k0_off57 t)
          (k0_off50_inb L k t h h') (k0_off51_inb L k t h h') (k0_off52_inb L k t h h') (k0_off53_inb L k t h h') (k0_off54_inb L k t h h') (k0_off55_inb L k t h h') (k0_off56_inb L k t h h') (k0_off57_inb L k t h h') := by
      unfold k0_t7_body; rw [k0_part6_eq_skeleton, k0_part7_eq_skeleton]; rfl
    rw [e]; exact cvtTrip_runs d _ _ arg8 arg10 _ _ _ _ _ _ _ _ _ _ _ _ _ _ _ _ X t.val (rows7_eq t)

set_option maxRecDepth 65536 in
/-- The conversion loop of plane 5, second buffer. -/
theorem t8_runs (v1 : BitVec 32) (h : k0_cond23 L = 1#1) (k : Fin k0_t6_loop.trips) (h' : k0_cond27 k = 1#1) (X : S8x1024.Idx → Elt F .f32) :
    iprop(full d (tc L) (ti L) arg9 X ∗ hole d (tc L) (ti L) arg11)
      ⊢ runs d (tc L) (ti L) (k0_t8_loop.for (k0_t8_ok L k h h') ⟨⟩ (k0_t8_body L arg2 harg2 arg3 harg3 arg4 harg4 arg5 harg5 arg6 harg6 arg7 harg7 arg8 harg8 arg9 harg9 arg10 harg10 arg11 harg11 arg12 arg13 arg14 arg15 arg16 arg17 arg18 arg19 v1 h k h'))
        fun _ => iprop(full d (tc L) (ti L) arg9 X ∗ full d (tc L) (ti L) arg11 fun j => fi (X j)) :=
  cvtLoop_runs d _ _ arg9 arg11 _ t8_trips _ _ X fun t x => by
    have e : k0_t8_body L arg2 harg2 arg3 harg3 arg4 harg4 arg5 harg5 arg6 harg6 arg7 harg7 arg8 harg8 arg9 harg9 arg10 harg10 arg11 harg11 arg12 arg13 arg14 arg15 arg16 arg17 arg18 arg19 v1 h k h' t x
        = cvtTrip (F := F) (tc L) (ti L) arg9 arg11 (k0_off62 t) (k0_off63 t) (k0_off64 t) (k0_off65 t) (k0_off66 t) (k0_off67 t) (k0_off68 t) (k0_off69 t)
          (k0_off62_inb L k t h h') (k0_off63_inb L k t h h') (k0_off64_inb L k t h h') (k0_off65_inb L k t h h') (k0_off66_inb L k t h h') (k0_off67_inb L k t h h') (k0_off68_inb L k t h h') (k0_off69_inb L k t h h') := by
      unfold k0_t8_body; rw [k0_part8_eq_skeleton, k0_part9_eq_skeleton]; rfl
    rw [e]; exact cvtTrip_runs d _ _ arg9 arg11 _ _ _ _ _ _ _ _ _ _ _ _ _ _ _ _ X t.val (rows8_eq t)

end Cert.Proof.Sc

end
-- ==== Proof.Copy.lean ====
/-
  The copy of planes 1 to 4: a tile's whole loop, from its first item's start to its last item's end.
-/
module

public import proofs.«01_k».proof.Proof.KrRing
public import proofs.«01_k».proof.Proof.Loops

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.Transfers (Flight Flight_mono MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]
variable (d : Dev nD) (L : grid0.Coords)

variable (arg2 : Memref sig .scVector .hbm S9x200x16384 .f32) (harg2 : arg2.IsWhole) (arg3 : Memref sig .scVector .hbm S200x1x16384 .i32)
variable (harg3 : arg3.IsWhole) (arg4 : Memref sig .scVector .hbm S200x4x16384 .f32) (harg4 : arg4.IsWhole)
variable (arg5 : Memref sig .scVector .hbm S200x1x16384 .i32) (harg5 : arg5.IsWhole) (arg6 : Memref sig .scVector .vmem S4x8192 .f32)
variable (harg6 : arg6.IsWhole) (arg7 : Memref sig .scVector .vmem S4x8192 .f32) (harg7 : arg7.IsWhole)
variable (arg8 : Memref sig .scVector .vmem S8x1024 .f32) (harg8 : arg8.IsWhole) (arg9 : Memref sig .scVector .vmem S8x1024 .f32)
variable (harg9 : arg9.IsWhole) (arg10 : Memref sig .scVector .vmem S8x1024 .i32) (harg10 : arg10.IsWhole)
variable (arg11 : Memref sig .scVector .vmem S8x1024 .i32) (harg11 : arg11.IsWhole) (arg12 : DmaSems sig S_) (arg13 : DmaSems sig S_)
variable (arg14 : DmaSems sig S_) (arg15 : DmaSems sig S_) (arg16 : DmaSems sig S_) (arg17 : DmaSems sig S_) (arg18 : DmaSems sig S_)
variable (arg19 : DmaSems sig S_)

/-- One trip is the half of the even buffer, then the half of the odd one; one of the two runs. -/
theorem t1_body_eq (h : k0_cond1 L = 1#1) (k : Fin (k0_t1_loop L).trips) (x : Unit) :
    k0_t1_body (F := F) L arg2 harg2 arg3 harg3 arg4 harg4 arg5 harg5 arg6 harg6 arg7 harg7 arg8 harg8 arg9 harg9 arg10 harg10 arg11 harg11 arg12 arg13 arg14 arg15 arg16 arg17 arg18 arg19 h k x
      = let E : Prog (TpuEff nD τ sig (Elt F) Λ₀ (.scVector (tc L) (ti L))) Unit :=
          if h5 : k0_cond5 L k = 1#1 then
            krHalf (tc L) (ti L) arg2 arg4 arg7 arg6 harg7.wordExact harg6.wordExact arg17.sem arg16.sem arg19.sem arg18.sem
              (k0_cond6 L k = 1#1) (k0_cond7 L k = 1#1) (k0_off6 L k) (k0_off6_inb L k h h5) (k0_off7 L k) (k0_off7_inb L k h h5)
              (k0_off8 L k) (k0_off8_inb L k h h5) (k0_off9 L k) (k0_off9_inb L k h h5) (pure ⟨⟩)
          else pure ⟨⟩
        if h2 : k0_cond2 L k = 1#1 then
          krHalf (tc L) (ti L) arg2 arg4 arg6 arg7 harg6.wordExact harg7.wordExact arg16.sem arg17.sem arg18.sem arg19.sem
            (k0_cond3 L k = 1#1) (k0_cond4 L k = 1#1) (k0_off2 L k) (k0_off2_inb L k h h2) (k0_off3 L k) (k0_off3_inb L k h h2)
            (k0_off4 L k) (k0_off4_inb L k h h2) (k0_off5 L k) (k0_off5_inb L k h h2) E
        else E := rfl

section Ring

variable (q : PosShare TreeShare) (fx : Buf (Elt F) (arg2.view.loc (V d (tc L) (ti L))))
variable (f₀ G : Buf (Elt F) (arg4.view.loc (V d (tc L) (ti L)))) (O : CellTallies nD τ sig (HIx 1)) (W : Waits sig (HIx 1))

/-- The ring before trip `k`: the even buffer's turn or the odd one's. -/
def krRing (k : ℕ) : sProp 𝕄 :=
  if k % 2 = 0 then
    krInv d (tc L) (ti L) arg2 arg4 q fx f₀ G (lo L) (cnt L) O W arg6 arg7 arg16.sem arg17.sem arg18.sem arg19.sem k
  else
    krInv d (tc L) (ti L) arg2 arg4 q fx f₀ G (lo L) (cnt L) O W arg7 arg6 arg17.sem arg16.sem arg19.sem arg18.sem k

theorem lo_cnt : ∀ L : grid0.Coords, lo L + cnt L ≤ 400 := by decide +kernel
theorem cnt_pos : ∀ L : grid0.Coords, 0 < cnt L := by decide +kernel

/-- A trip takes the ring on by one item. -/
theorem t1_step (hG : arg4.view.read (Elt F) G = krG (arg2.view.read (Elt F) fx)) (h : k0_cond1 L = 1#1) (k : Fin (k0_t1_loop L).trips) (x : Unit) :
    krRing d L arg2 arg4 arg6 arg7 arg16 arg17 arg18 arg19 q fx f₀ G O W k.val
      ⊢ runs d (tc L) (ti L) (k0_t1_body L arg2 harg2 arg3 harg3 arg4 harg4 arg5 harg5 arg6 harg6 arg7 harg7 arg8 harg8 arg9 harg9 arg10 harg10 arg11 harg11 arg12 arg13 arg14 arg15 arg16 arg17 arg18 arg19 h k x)
          fun _ => krRing d L arg2 arg4 arg6 arg7 arg16 arg17 arg18 arg19 q fx f₀ G O W (k.val + 1) := by
  have hk : k.val < cnt L := (t1_trips L) ▸ k.isLt
  rw [t1_body_eq]
  dsimp only
  unfold krRing
  by_cases hp : k.val % 2 = 0
  · rw [dif_pos ((cond2_iff L k).mpr hp), dif_neg (fun h5 => by have := (cond5_iff L k).mp h5; omega), if_pos hp, if_neg (by omega)]
    refine BIBase.Entails.trans ?_ (krHalf_runs d (tc L) (ti L) arg2 arg4 q fx f₀ G (lo L) (cnt L) O W (lo_cnt L) hG arg6 arg7 _ _ _ _ _ _ _ _ _ _ _ _ _ _ _ _
      hk (cond3_iff L k) (cond4_iff L k) (off4_eq L k) (off5_eq L k) _ _)
    iintro H; isplitl [H]; · iexact H
    iintro H; iapply (le_wp_ret _ _ _ _ _); iexact H
  · rw [dif_neg (fun h2 => hp ((cond2_iff L k).mp h2)), dif_pos ((cond5_iff L k).mpr (by omega)), if_neg hp, if_pos (by omega)]
    refine BIBase.Entails.trans ?_ (krHalf_runs d (tc L) (ti L) arg2 arg4 q fx f₀ G (lo L) (cnt L) O W (lo_cnt L) hG arg7 arg6 _ _ _ _ _ _ _ _ _ _ _ _ _ _ _ _
      hk (cond6_iff L k) (cond7_iff L k) (off8_eq L k) (off9_eq L k) _ _)
    iintro H; isplitl [H]; · iexact H
    iintro H; iapply (le_wp_ret _ _ _ _ _); iexact H

end Ring

/-- The whole copy of one tile, then `E`. -/
def copyProg (h : k0_cond1 L = 1#1) (E : Prog (TpuEff nD τ sig (Elt F) Λ₀ (.scVector (tc L) (ti L))) PUnit) :
    Prog (TpuEff nD τ sig (Elt F) Λ₀ (.scVector (tc L) (ti L))) PUnit := do
  Prog.lift (.enqueueDma (krIn arg2 (k0_off1 L) (k0_off1_inb L h)) (.here arg6) (.dma arg16.sem) ((View.wordExact_bits rfl).reshape _ _) harg6.wordExact ⟨Or.inl rfl, trivial⟩)
  Scf.Loop.for (k0_t1_loop L) (k0_t1_ok L h) ⟨⟩ (k0_t1_body L arg2 harg2 arg3 harg3 arg4 harg4 arg5 harg5 arg6 harg6 arg7 harg7 arg8 harg8 arg9 harg9 arg10 harg10 arg11 harg11 arg12 arg13 arg14 arg15 arg16 arg17 arg18 arg19 h)
  Scf.Loop.for (k0_t2_loop L) (k0_t2_ok L h) ⟨⟩ (k0_t2_body L arg2 harg2 arg3 harg3 arg4 harg4 arg5 harg5 arg6 harg6 arg7 harg7 arg8 harg8 arg9 harg9 arg10 harg10 arg11 harg11 arg12 arg13 arg14 arg15 arg16 arg17 arg18 arg19 h)
  if h14 : k0_cond14 L = 1#1 then do
    Prog.lift (.waitDma2 arg18.sem arg6 (krOut arg4 (k0_off18 L) (k0_off18_inb L h h14)) harg6.wordExact ((View.wordExact_bits rfl).reshape _ _))
    pure ⟨⟩
  else do
    pure ⟨⟩
  if h15 : k0_cond15 L = 1#1 then do
    Prog.lift (.waitDma2 arg19.sem arg7 (krOut arg4 (k0_off19 L) (k0_off19_inb L h h15)) harg7.wordExact ((View.wordExact_bits rfl).reshape _ _))
    pure ⟨⟩
  else do
    pure ⟨⟩
  E

section Phase

variable (q : PosShare TreeShare) (fx : Buf (Elt F) (arg2.view.loc (V d (tc L) (ti L))))
variable (O : CellTallies nD τ sig (HIx 1)) (W : Waits sig (HIx 1))

/-- What the copy works with, its items of the result at contents `f`. -/
def copyRes (f : Buf (Elt F) (arg4.view.loc (V d (tc L) (ti L)))) : sProp 𝕄 :=
  iprop(hole d (tc L) (ti L) arg6 ∗ hole d (tc L) (ti L) arg7
    ∗ rest d (tc L) (ti L) arg16.sem ∗ rest d (tc L) (ti L) arg17.sem ∗ rest d (tc L) (ti L) arg18.sem ∗ rest d (tc L) (ti L) arg19.sem
    ∗ xShare d (tc L) (ti L) arg2 q fx ∗ pc d (tc L) (ti L) arg4 krItem (lo L) (lo L + cnt L) f ∗ Due d (tc L) (ti L) O W)

/-- The copy puts the tile's items in place and leaves all else as it was. -/
theorem copy_runs (f₀ G : Buf (Elt F) (arg4.view.loc (V d (tc L) (ti L)))) (hG : arg4.view.read (Elt F) G = krG (arg2.view.read (Elt F) fx))
    (h : k0_cond1 L = 1#1) (E : Prog (TpuEff nD τ sig (Elt F) Λ₀ (.scVector (tc L) (ti L))) PUnit) (Q : PUnit → sProp 𝕄) :
    iprop(copyRes d L arg2 arg4 arg6 arg7 arg16 arg17 arg18 arg19 q fx O W f₀
        ∗ (copyRes d L arg2 arg4 arg6 arg7 arg16 arg17 arg18 arg19 q fx O W G -∗ runs d (tc L) (ti L) E Q))
      ⊢ runs d (tc L) (ti L) (copyProg L arg2 harg2 arg3 harg3 arg4 harg4 arg5 harg5 arg6 harg6 arg7 harg7 arg8 harg8 arg9 harg9 arg10 harg10 arg11 harg11 arg12 arg13 arg14 arg15 arg16 arg17 arg18 arg19 h E) Q := by
  have hc := cnt_pos L
  have hlc := lo_cnt L
  unfold copyProg copyRes
  dsimp only
  iintro ⟨⟨Ha6, Ha7, H16, H17, H18, H19, Hx, Ho, Hdue⟩, HE⟩
  iapply (runs_bind d _ _)
  isplitl [Ha6 H16 Hx]
  · iapply (issue_in d (tc L) (ti L) (src := krIn arg2 (k0_off1 L) (k0_off1_inb L h)) (a := arg6) (sem := arg16.sem) (N := krN) rfl krN_pos q fx)
    isplitl [Ha6]; · iexact Ha6
    isplitl [H16]; · iexact H16
    iexact Hx
  iintro %_y Hfly
  iapply (runs_bind d _ _)
  isplitl [Hfly H17 H18 H19 Ha7 Ho Hdue]
  · iapply (Scf.wp_for _ _ _ (k0_t1_loop L).lb (k0_t1_loop L).ub (k0_t1_loop L).st (k0_t1_ok L h) ⟨⟩ _
      (fun k _ => krRing d L arg2 arg4 arg6 arg7 arg16 arg17 arg18 arg19 q fx f₀ G O W k)
      (t1_step d L arg2 harg2 arg3 harg3 arg4 harg4 arg5 harg5 arg6 harg6 arg7 harg7 arg8 harg8 arg9 harg9 arg10 harg10 arg11 harg11 arg12 arg13 arg14 arg15 arg16 arg17 arg18 arg19 q fx f₀ G O W hG h) (Q := fun _ => krRing d L arg2 arg4 arg6 arg7 arg16 arg17 arg18 arg19 q fx f₀ G O W (cnt L)))
    isplitl
    · unfold krRing krInv
      rw [if_pos rfl, slot_pos d _ _ hc, slot_neg d _ _ (Nat.lt_irrefl 0), krIn_read arg2 _ _ (n := lo L) (by omega) (off1_eq L) fx,
        pc_empty d _ _ arg4 krItem (l := lo L) (h := lo L + (0 - 1)) (by omega)]
      isplitl [Hfly]; · iexact Hfly
      isplitl [H17]; · iexact H17
      isplitl [H18]; · iexact H18
      isplitl [H19 Ha7]
      · isplitl [H19]; · iexact H19
        iexact Ha7
      isplitr; · iempintro
      isplitl [Ho]; · iexact Ho
      iexact Hdue
    · iintro %_y H
      rw [show Scf.trips (k0_t1_loop L).lb (k0_t1_loop L).ub (k0_t1_loop L).st = cnt L from t1_trips L]
      iexact H
  iintro %_y Hring
  iapply (runs_bind d _ _)
  isplitl [Hring]
  · iapply (Scf.wp_for _ _ _ (k0_t2_loop L).lb (k0_t2_loop L).ub (k0_t2_loop L).st (k0_t2_ok L h) ⟨⟩ _
      (fun _ _ => krRing d L arg2 arg4 arg6 arg7 arg16 arg17 arg18 arg19 q fx f₀ G O W (cnt L))
      (fun k _ => absurd (lt_of_lt_of_eq k.isLt (t2_trips L)) (Nat.not_lt_zero _))
      (Q := fun _ => krRing d L arg2 arg4 arg6 arg7 arg16 arg17 arg18 arg19 q fx f₀ G O W (cnt L)))
    isplitl
    · iexact Hring
    · iintro %_y H; iexact H
  iintro %_y
  unfold krRing
  by_cases hp : cnt L % 2 = 0
  · rw [dif_neg (fun h' => by have := (cond14_iff L).mp h'; omega), dif_pos ((cond15_iff L).mpr hp), if_pos hp]
    iintro Hring
    iapply (runs_bind d _ _)
    isplitl [Hring]
    · iapply (krLast_runs d (tc L) (ti L) arg2 arg4 q fx f₀ G (lo L) (cnt L) O W hc arg6 arg7); iexact Hring
    iintro %_y ⟨Ha6, Ha7, H16, H17, H18, H19, Hx, Ho, Hdue⟩
    iapply HE
    isplitl [Ha6]; · iexact Ha6
    isplitl [Ha7]; · iexact Ha7
    isplitl [H16]; · iexact H16
    isplitl [H17]; · iexact H17
    isplitl [H18]; · iexact H18
    isplitl [H19]; · iexact H19
    isplitl [Hx]; · iexact Hx
    isplitl [Ho]; · iexact Ho
    iexact Hdue
  · rw [dif_pos ((cond14_iff L).mpr (by omega)), dif_neg (fun h' => hp ((cond15_iff L).mp h')), if_neg hp]
    iintro Hring
    iapply (runs_bind d _ _)
    isplitl [Hring]
    · iapply (krLast_runs d (tc L) (ti L) arg2 arg4 q fx f₀ G (lo L) (cnt L) O W hc arg7 arg6); iexact Hring
    iintro %_y ⟨Ha7, Ha6, H17, H16, H19, H18, Hx, Ho, Hdue⟩
    iapply HE
    isplitl [Ha6]; · iexact Ha6
    isplitl [Ha7]; · iexact Ha7
    isplitl [H16]; · iexact H16
    isplitl [H17]; · iexact H17
    isplitl [H18]; · iexact H18
    isplitl [H19]; · iexact H19
    isplitl [Hx]; · iexact Hx
    isplitl [Ho]; · iexact Ho
    iexact Hdue

end Phase

end Cert.Proof.Sc

end
-- ==== Proof.Conv.lean ====
/-
  The conversions of planes 0 and 5: a tile's whole loop over one of them.
-/
module

public import proofs.«01_k».proof.Proof.ConvRing
public import proofs.«01_k».proof.Proof.Copy
public import proofs.«01_k».proof.Proof.Loops

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.Transfers (Flight Flight_mono MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]
variable (d : Dev nD) (L : grid0.Coords)

variable (arg2 : Memref sig .scVector .hbm S9x200x16384 .f32) (harg2 : arg2.IsWhole) (arg3 : Memref sig .scVector .hbm S200x1x16384 .i32)
variable (harg3 : arg3.IsWhole) (arg4 : Memref sig .scVector .hbm S200x4x16384 .f32) (harg4 : arg4.IsWhole)
variable (arg5 : Memref sig .scVector .hbm S200x1x16384 .i32) (harg5 : arg5.IsWhole) (arg6 : Memref sig .scVector .vmem S4x8192 .f32)
variable (harg6 : arg6.IsWhole) (arg7 : Memref sig .scVector .vmem S4x8192 .f32) (harg7 : arg7.IsWhole)
variable (arg8 : Memref sig .scVector .vmem S8x1024 .f32) (harg8 : arg8.IsWhole) (arg9 : Memref sig .scVector .vmem S8x1024 .f32)
variable (harg9 : arg9.IsWhole) (arg10 : Memref sig .scVector .vmem S8x1024 .i32) (harg10 : arg10.IsWhole)
variable (arg11 : Memref sig .scVector .vmem S8x1024 .i32) (harg11 : arg11.IsWhole) (arg12 : DmaSems sig S_) (arg13 : DmaSems sig S_)
variable (arg14 : DmaSems sig S_) (arg15 : DmaSems sig S_) (arg16 : DmaSems sig S_) (arg17 : DmaSems sig S_) (arg18 : DmaSems sig S_)
variable (arg19 : DmaSems sig S_)

theorem base_le : ∀ L : grid0.Coords, base L + 25 ≤ 400 := by decide +kernel

/-- One trip of plane 0's conversion is the half of the even buffers, then the half of the odd ones; one of the two runs. -/
theorem t3_body_eq (h : k0_cond16 L = 1#1) (v1 : BitVec 32) (k : Fin k0_t3_loop.trips) (x : Unit) :
    k0_t3_body (F := F) L arg2 harg2 arg3 harg3 arg4 harg4 arg5 harg5 arg6 harg6 arg7 harg7 arg8 harg8 arg9 harg9 arg10 harg10 arg11 harg11 arg12 arg13 arg14 arg15 arg16 arg17 arg18 arg19 v1 h k x
      = let E : Prog (TpuEff nD τ sig (Elt F) Λ₀ (.scVector (tc L) (ti L))) Unit :=
          if h4 : k0_cond20 k = 1#1 then
            cvHalf (tc L) (ti L) arg2 arg3 arg9 arg8 arg11 harg9.wordExact harg8.wordExact harg11.wordExact arg13.sem arg12.sem arg15.sem
              (k0_cond21 k = 1#1) (k0_cond22 k = 1#1) (k0_off33 L k) (k0_off33_inb L k h h4) (k0_off34 L k) (k0_off34_inb L k h h4)
              (k0_off35 L k) (k0_off35_inb L k h h4)
              (Scf.Loop.for k0_t5_loop (k0_t5_ok L k h h4) ⟨⟩ (k0_t5_body L arg2 harg2 arg3 harg3 arg4 harg4 arg5 harg5 arg6 harg6 arg7 harg7 arg8 harg8 arg9 harg9 arg10 harg10 arg11 harg11 arg12 arg13 arg14 arg15 arg16 arg17 arg18 arg19 v1 h k h4))
              (k0_off44 L k) (k0_off44_inb L k h h4) (pure ⟨⟩)
          else pure ⟨⟩
        if h1 : k0_cond17 k = 1#1 then
          cvHalf (tc L) (ti L) arg2 arg3 arg8 arg9 arg10 harg8.wordExact harg9.wordExact harg10.wordExact arg12.sem arg13.sem arg14.sem
            (k0_cond18 k = 1#1) (k0_cond19 k = 1#1) (k0_off21 L k) (k0_off21_inb L k h h1) (k0_off22 L k) (k0_off22_inb L k h h1)
            (k0_off23 L k) (k0_off23_inb L k h h1)
            (Scf.Loop.for k0_t4_loop (k0_t4_ok L k h h1) ⟨⟩ (k0_t4_body L arg2 harg2 arg3 harg3 arg4 harg4 arg5 harg5 arg6 harg6 arg7 harg7 arg8 harg8 arg9 harg9 arg10 harg10 arg11 harg11 arg12 arg13 arg14 arg15 arg16 arg17 arg18 arg19 v1 h k h1))
            (k0_off32 L k) (k0_off32_inb L k h h1) E
        else E := rfl

section

variable (q : PosShare TreeShare) (fx : Buf (Elt F) (arg2.view.loc (V d (tc L) (ti L))))
variable (f₀ G : Buf (Elt F) (arg3.view.loc (V d (tc L) (ti L)))) (O : CellTallies nD τ sig (HIx 1)) (W : Waits sig (HIx 1))

/-- A trip takes plane 0's ring on by one item. -/
theorem t3_step (hG : arg3.view.read (Elt F) G = cvG (arg2.view.read (Elt F) fx) 0) (h : k0_cond16 L = 1#1) (v1 : BitVec 32) (k : Fin k0_t3_loop.trips) (x : Unit) :
    cvRing d (tc L) (ti L) arg2 arg3 0 q fx f₀ G (base L) 25 O W arg8 arg9 arg10 arg11 arg12.sem arg13.sem arg14.sem arg15.sem k.val
      ⊢ runs d (tc L) (ti L) (k0_t3_body L arg2 harg2 arg3 harg3 arg4 harg4 arg5 harg5 arg6 harg6 arg7 harg7 arg8 harg8 arg9 harg9 arg10 harg10 arg11 harg11 arg12 arg13 arg14 arg15 arg16 arg17 arg18 arg19 v1 h k x)
          fun _ => cvRing d (tc L) (ti L) arg2 arg3 0 q fx f₀ G (base L) 25 O W arg8 arg9 arg10 arg11 arg12.sem arg13.sem arg14.sem arg15.sem (k.val + 1) := by
  have hk : k.val < 25 := t3_trips ▸ k.isLt
  rw [t3_body_eq]
  dsimp only
  unfold cvRing
  by_cases hp : k.val % 2 = 0
  · rw [dif_pos ((cond17_iff k).mpr hp), dif_neg (fun h' => by have := (cond20_iff k).mp h'; omega), if_pos hp, if_neg (by omega)]
    refine BIBase.Entails.trans ?_ (cvHalf_runs d (tc L) (ti L) arg2 arg3 0 q fx f₀ G (base L) 25 O W (base_le L) hG arg8 arg9 arg10 arg11 _ _ _ _ _ _ arg15.sem _ _ _ _ _ _ _ _
      _ (t4_runs d L arg2 harg2 arg3 harg3 arg4 harg4 arg5 harg5 arg6 harg6 arg7 harg7 arg8 harg8 arg9 harg9 arg10 harg10 arg11 harg11 arg12 arg13 arg14 arg15 arg16 arg17 arg18 arg19 v1 h k _) _ _ hk (cond18_iff k) (cond19_iff k) (off22_eq L k) (off32_eq L k) _ _)
    iintro H; isplitl [H]; · iexact H
    iintro H; iapply (le_wp_ret _ _ _ _ _); iexact H
  · rw [dif_neg (fun h' => hp ((cond17_iff k).mp h')), dif_pos ((cond20_iff k).mpr (by omega)), if_neg hp, if_pos (by omega)]
    refine BIBase.Entails.trans ?_ (cvHalf_runs d (tc L) (ti L) arg2 arg3 0 q fx f₀ G (base L) 25 O W (base_le L) hG arg9 arg8 arg11 arg10 _ _ _ _ _ _ arg14.sem _ _ _ _ _ _ _ _
      _ (t5_runs d L arg2 harg2 arg3 harg3 arg4 harg4 arg5 harg5 arg6 harg6 arg7 harg7 arg8 harg8 arg9 harg9 arg10 harg10 arg11 harg11 arg12 arg13 arg14 arg15 arg16 arg17 arg18 arg19 v1 h k _) _ _ hk (cond21_iff k) (cond22_iff k) (off34_eq L k) (off44_eq L k) _ _)
    iintro H; isplitl [H]; · iexact H
    iintro H; iapply (le_wp_ret _ _ _ _ _); iexact H

end

/-- One trip of plane 5's conversion is the half of the even buffers, then the half of the odd ones; one of the two runs. -/
theorem t6_body_eq (h : k0_cond23 L = 1#1) (v1 : BitVec 32) (k : Fin k0_t6_loop.trips) (x : Unit) :
    k0_t6_body (F := F) L arg2 harg2 arg3 harg3 arg4 harg4 arg5 harg5 arg6 harg6 arg7 harg7 arg8 harg8 arg9 harg9 arg10 harg10 arg11 harg11 arg12 arg13 arg14 arg15 arg16 arg17 arg18 arg19 v1 h k x
      = let E : Prog (TpuEff nD τ sig (Elt F) Λ₀ (.scVector (tc L) (ti L))) Unit :=
          if h4 : k0_cond27 k = 1#1 then
            cvHalf (tc L) (ti L) arg2 arg5 arg9 arg8 arg11 harg9.wordExact harg8.wordExact harg11.wordExact arg13.sem arg12.sem arg15.sem
              (k0_cond28 k = 1#1) (k0_cond29 k = 1#1) (k0_off59 L k) (k0_off59_inb L k h h4) (k0_off60 L k) (k0_off60_inb L k h h4)
              (k0_off61 L k) (k0_off61_inb L k h h4)
              (Scf.Loop.for k0_t8_loop (k0_t8_ok L k h h4) ⟨⟩ (k0_t8_body L arg2 harg2 arg3 harg3 arg4 harg4 arg5 harg5 arg6 harg6 arg7 harg7 arg8 harg8 arg9 harg9 arg10 harg10 arg11 harg11 arg12 arg13 arg14 arg15 arg16 arg17 arg18 arg19 v1 h k h4))
              (k0_off70 L k) (k0_off70_inb L k h h4) (pure ⟨⟩)
          else pure ⟨⟩
        if h1 : k0_cond24 k = 1#1 then
          cvHalf (tc L) (ti L) arg2 arg5 arg8 arg9 arg10 harg8.wordExact harg9.wordExact harg10.wordExact arg12.sem arg13.sem arg14.sem
            (k0_cond25 k = 1#1) (k0_cond26 k = 1#1) (k0_off47 L k) (k0_off47_inb L k h h1) (k0_off48 L k) (k0_off48_inb L k h h1)
            (k0_off49 L k) (k0_off49_inb L k h h1)
            (Scf.Loop.for k0_t7_loop (k0_t7_ok L k h h1) ⟨⟩ (k0_t7_body L arg2 harg2 arg3 harg3 arg4 harg4 arg5 harg5 arg6 harg6 arg7 harg7 arg8 harg8 arg9 harg9 arg10 harg10 arg11 harg11 arg12 arg13 arg14 arg15 arg16 arg17 arg18 arg19 v1 h k h1))
            (k0_off58 L k) (k0_off58_inb L k h h1) E
        else E := rfl

section

variable (q : PosShare TreeShare) (fx : Buf (Elt F) (arg2.view.loc (V d (tc L) (ti L))))
variable (f₀ G : Buf (Elt F) (arg5.view.loc (V d (tc L) (ti L)))) (O : CellTallies nD τ sig (HIx 1)) (W : Waits sig (HIx 1))

/-- A trip takes plane 5's ring on by one item. -/
theorem t6_step (hG : arg5.view.read (Elt F) G = cvG (arg2.view.read (Elt F) fx) 5) (h : k0_cond23 L = 1#1) (v1 : BitVec 32) (k : Fin k0_t6_loop.trips) (x : Unit) :
    cvRing d (tc L) (ti L) arg2 arg5 5 q fx f₀ G (base L) 25 O W arg8 arg9 arg10 arg11 arg12.sem arg13.sem arg14.sem arg15.sem k.val
      ⊢ runs d (tc L) (ti L) (k0_t6_body L arg2 harg2 arg3 harg3 arg4 harg4 arg5 harg5 arg6 harg6 arg7 harg7 arg8 harg8 arg9 harg9 arg10 harg10 arg11 harg11 arg12 arg13 arg14 arg15 arg16 arg17 arg18 arg19 v1 h k x)
          fun _ => cvRing d (tc L) (ti L) arg2 arg5 5 q fx f₀ G (base L) 25 O W arg8 arg9 arg10 arg11 arg12.sem arg13.sem arg14.sem arg15.sem (k.val + 1) := by
  have hk : k.val < 25 := t6_trips ▸ k.isLt
  rw [t6_body_eq]
  dsimp only
  unfold cvRing
  by_cases hp : k.val % 2 = 0
  · rw [dif_pos ((cond24_iff k).mpr hp), dif_neg (fun h' => by have := (cond27_iff k).mp h'; omega), if_pos hp, if_neg (by omega)]
    refine BIBase.Entails.trans ?_ (cvHalf_runs d (tc L) (ti L) arg2 arg5 5 q fx f₀ G (base L) 25 O W (base_le L) hG arg8 arg9 arg10 arg11 _ _ _ _ _ _ arg15.sem _ _ _ _ _ _ _ _
      _ (t7_runs d L arg2 harg2 arg3 harg3 arg4 harg4 arg5 harg5 arg6 harg6 arg7 harg7 arg8 harg8 arg9 harg9 arg10 harg10 arg11 harg11 arg12 arg13 arg14 arg15 arg16 arg17 arg18 arg19 v1 h k _) _ _ hk (cond25_iff k) (cond26_iff k) (off48_eq L k) (off58_eq L k) _ _)
    iintro H; isplitl [H]; · iexact H
    iintro H; iapply (le_wp_ret _ _ _ _ _); iexact H
  · rw [dif_neg (fun h' => hp ((cond24_iff k).mp h')), dif_pos ((cond27_iff k).mpr (by omega)), if_neg hp, if_pos (by omega)]
    refine BIBase.Entails.trans ?_ (cvHalf_runs d (tc L) (ti L) arg2 arg5 5 q fx f₀ G (base L) 25 O W (base_le L) hG arg9 arg8 arg11 arg10 _ _ _ _ _ _ arg14.sem _ _ _ _ _ _ _ _
      _ (t8_runs d L arg2 harg2 arg3 harg3 arg4 harg4 arg5 harg5 arg6 harg6 arg7 harg7 arg8 harg8 arg9 harg9 arg10 harg10 arg11 harg11 arg12 arg13 arg14 arg15 arg16 arg17 arg18 arg19 v1 h k _) _ _ hk (cond28_iff k) (cond29_iff k) (off60_eq L k) (off70_eq L k) _ _)
    iintro H; isplitl [H]; · iexact H
    iintro H; iapply (le_wp_ret _ _ _ _ _); iexact H

end

end Cert.Proof.Sc

end
-- ==== Proof.TileBody.lean ====
/-
  One tile's whole body: the copy of its share of planes 1 to 4, then the conversion of its share of plane 0 or of plane 5.
-/
module

public import proofs.«01_k».proof.Proof.Conv

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.ShloMosaic.Transfers (Flight Flight_mono MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

variable [FloatOps F]
variable (d : Dev nD) (L : grid0.Coords)

variable (arg2 : Memref sig .scVector .hbm S9x200x16384 .f32) (harg2 : arg2.IsWhole) (arg3 : Memref sig .scVector .hbm S200x1x16384 .i32)
variable (harg3 : arg3.IsWhole) (arg4 : Memref sig .scVector .hbm S200x4x16384 .f32) (harg4 : arg4.IsWhole)
variable (arg5 : Memref sig .scVector .hbm S200x1x16384 .i32) (harg5 : arg5.IsWhole) (arg6 : Memref sig .scVector .vmem S4x8192 .f32)
variable (harg6 : arg6.IsWhole) (arg7 : Memref sig .scVector .vmem S4x8192 .f32) (harg7 : arg7.IsWhole)
variable (arg8 : Memref sig .scVector .vmem S8x1024 .f32) (harg8 : arg8.IsWhole) (arg9 : Memref sig .scVector .vmem S8x1024 .f32)
variable (harg9 : arg9.IsWhole) (arg10 : Memref sig .scVector .vmem S8x1024 .i32) (harg10 : arg10.IsWhole)
variable (arg11 : Memref sig .scVector .vmem S8x1024 .i32) (harg11 : arg11.IsWhole) (arg12 : DmaSems sig S_) (arg13 : DmaSems sig S_)
variable (arg14 : DmaSems sig S_) (arg15 : DmaSems sig S_) (arg16 : DmaSems sig S_) (arg17 : DmaSems sig S_) (arg18 : DmaSems sig S_)
variable (arg19 : DmaSems sig S_)

/-- The tile's number, as a word, -/
abbrev tileNo : BitVec 32 := Scalar.addi (Scalar.muli (BitVec.ofNat 32 (L 1).val) 2#32) (BitVec.ofNat 32 (L 0).val)

/-- and what the program keeps of its last item's place. -/
abbrev lastLane : Σ' (_ : BitVec 32), BitVec 32 :=
  ⟨Scalar.andi (Scalar.addi (Scalar.muli (Scalar.andi (tileNo L) 15#32) 25#32) 24#32) 15#32, 1024#32⟩

/-- The conversion of plane 5, for the tiles from 16 on. -/
def conv5 : Prog (TpuEff nD τ sig (Elt F) Λ₀ (.scVector (tc L) (ti L))) PUnit :=
  if h : k0_cond23 L = 1#1 then
    cvMain (tc L) (ti L) arg2 arg5 arg8 arg11 harg8.wordExact harg11.wordExact arg12.sem arg15.sem (k0_off46 L) (k0_off46_inb L h)
    k0_t6_loop (k0_t6_ok L h) (k0_t6_body L arg2 harg2 arg3 harg3 arg4 harg4 arg5 harg5 arg6 harg6 arg7 harg7 arg8 harg8 arg9 harg9 arg10 harg10 arg11 harg11 arg12 arg13 arg14 arg15 arg16 arg17 arg18 arg19 (tileNo L) h)
    (k0_off71 L 23#32) (k0_off71_inb L h 0) (lastLane L) >>= fun _ =>
      Prog.lift (.waitDma2 arg14.sem arg10 (cvOut arg5 (k0_off71 L 24#32) (k0_off71_inb L h 1)) harg10.wordExact ((View.wordExact_bits rfl).reshape _ _))
        >>= fun _ => pure ⟨⟩
  else pure ⟨⟩

/-- The conversion of plane 0, for the tiles below 16; then plane 5's. -/
def conv0 : Prog (TpuEff nD τ sig (Elt F) Λ₀ (.scVector (tc L) (ti L))) PUnit :=
  if h : k0_cond16 L = 1#1 then
    cvMain (tc L) (ti L) arg2 arg3 arg8 arg11 harg8.wordExact harg11.wordExact arg12.sem arg15.sem (k0_off20 L) (k0_off20_inb L h)
    k0_t3_loop (k0_t3_ok L h) (k0_t3_body L arg2 harg2 arg3 harg3 arg4 harg4 arg5 harg5 arg6 harg6 arg7 harg7 arg8 harg8 arg9 harg9 arg10 harg10 arg11 harg11 arg12 arg13 arg14 arg15 arg16 arg17 arg18 arg19 (tileNo L) h)
    (k0_off45 L 23#32) (k0_off45_inb L h 0) (lastLane L) >>= fun _ =>
      Prog.lift (.waitDma2 arg14.sem arg10 (cvOut arg3 (k0_off45 L 24#32) (k0_off45_inb L h 1)) harg10.wordExact ((View.wordExact_bits rfl).reshape _ _))
        >>= fun _ => conv5 L arg2 harg2 arg3 harg3 arg4 harg4 arg5 harg5 arg6 harg6 arg7 harg7 arg8 harg8 arg9 harg9 arg10 harg10 arg11 harg11 arg12 arg13 arg14 arg15 arg16 arg17 arg18 arg19
  else conv5 L arg2 harg2 arg3 harg3 arg4 harg4 arg5 harg5 arg6 harg6 arg7 harg7 arg8 harg8 arg9 harg9 arg10 harg10 arg11 harg11 arg12 arg13 arg14 arg15 arg16 arg17 arg18 arg19

set_option maxRecDepth 65536 in
/-- The printed body is the copy and the two conversions. -/
theorem body_eq : cc0__sc_body (F := F) L arg2 harg2 arg3 harg3 arg4 harg4 arg5 harg5 arg6 harg6 arg7 harg7 arg8 harg8 arg9 harg9 arg10 harg10 arg11 harg11 arg12 arg13 arg14 arg15 arg16 arg17 arg18 arg19
    = if h : k0_cond1 L = 1#1 then copyProg L arg2 harg2 arg3 harg3 arg4 harg4 arg5 harg5 arg6 harg6 arg7 harg7 arg8 harg8 arg9 harg9 arg10 harg10 arg11 harg11 arg12 arg13 arg14 arg15 arg16 arg17 arg18 arg19 h (conv0 L arg2 harg2 arg3 harg3 arg4 harg4 arg5 harg5 arg6 harg6 arg7 harg7 arg8 harg8 arg9 harg9 arg10 harg10 arg11 harg11 arg12 arg13 arg14 arg15 arg16 arg17 arg18 arg19)
      else conv0 L arg2 harg2 arg3 harg3 arg4 harg4 arg5 harg5 arg6 harg6 arg7 harg7 arg8 harg8 arg9 harg9 arg10 harg10 arg11 harg11 arg12 arg13 arg14 arg15 arg16 arg17 arg18 arg19 := by
  rw [cc0__sc_body_eq_skeleton]
  unfold cc0__sc_body_skel
  rw [k0_part5_eq_skeleton, k0_part10_eq_skeleton]
  rfl

section

variable (q : PosShare TreeShare) (fx : Buf (Elt F) (arg2.view.loc (V d (tc L) (ti L))))
variable (O : CellTallies nD τ sig (HIx 1)) (W : Waits sig (HIx 1))

/-- What a tile works with: its buffers and semaphores, a share of the transposed argument, and its own items of the results. -/
def tileRes (f3 : Buf (Elt F) (arg3.view.loc (V d (tc L) (ti L)))) (f4 : Buf (Elt F) (arg4.view.loc (V d (tc L) (ti L))))
    (f5 : Buf (Elt F) (arg5.view.loc (V d (tc L) (ti L)))) : sProp 𝕄 :=
  iprop((hole d (tc L) (ti L) arg6 ∗ hole d (tc L) (ti L) arg7 ∗ hole d (tc L) (ti L) arg8 ∗ hole d (tc L) (ti L) arg9 ∗ hole d (tc L) (ti L) arg10 ∗ hole d (tc L) (ti L) arg11)
    ∗ (rest d (tc L) (ti L) arg12.sem ∗ rest d (tc L) (ti L) arg13.sem ∗ rest d (tc L) (ti L) arg14.sem ∗ rest d (tc L) (ti L) arg15.sem ∗ rest d (tc L) (ti L) arg16.sem ∗ rest d (tc L) (ti L) arg17.sem ∗ rest d (tc L) (ti L) arg18.sem ∗ rest d (tc L) (ti L) arg19.sem)
    ∗ xShare d (tc L) (ti L) arg2 q fx ∗ pc d (tc L) (ti L) arg4 krItem (lo L) (lo L + cnt L) f4
    ∗ (if wid L < 16 then pc d (tc L) (ti L) arg3 cvItem (base L) (base L + 25) f3 else pc d (tc L) (ti L) arg5 cvItem (base L) (base L + 25) f5)
    ∗ Due d (tc L) (ti L) O W)

/-- A tile's body puts its items of the results in place and leaves all else as it was. -/
theorem body_runs (f3 G3 : Buf (Elt F) (arg3.view.loc (V d (tc L) (ti L)))) (f4 G4 : Buf (Elt F) (arg4.view.loc (V d (tc L) (ti L))))
    (f5 G5 : Buf (Elt F) (arg5.view.loc (V d (tc L) (ti L))))
    (hG3 : arg3.view.read (Elt F) G3 = cvG (arg2.view.read (Elt F) fx) 0) (hG4 : arg4.view.read (Elt F) G4 = krG (arg2.view.read (Elt F) fx))
    (hG5 : arg5.view.read (Elt F) G5 = cvG (arg2.view.read (Elt F) fx) 5) :
    tileRes d L arg2 arg3 arg4 arg5 arg6 arg7 arg8 arg9 arg10 arg11 arg12 arg13 arg14 arg15 arg16 arg17 arg18 arg19 q fx O W f3 f4 f5
      ⊢ runs d (tc L) (ti L) (cc0__sc_body L arg2 harg2 arg3 harg3 arg4 harg4 arg5 harg5 arg6 harg6 arg7 harg7 arg8 harg8 arg9 harg9 arg10 harg10 arg11 harg11 arg12 arg13 arg14 arg15 arg16 arg17 arg18 arg19) fun _ =>
          tileRes d L arg2 arg3 arg4 arg5 arg6 arg7 arg8 arg9 arg10 arg11 arg12 arg13 arg14 arg15 arg16 arg17 arg18 arg19 q fx O W G3 G4 G5 := by
  rw [body_eq, dif_pos (cond1_eq L)]
  unfold tileRes conv0 conv5
  by_cases hw : wid L < 16
  · simp only [if_pos hw]
    rw [dif_pos ((cond16_iff L).mpr hw), dif_neg (fun h => by have := (cond23_iff L).mp h; omega)]
    iintro ⟨⟨H6, H7, H8, H9, H10, H11⟩, ⟨H12, H13, H14, H15, H16, H17, H18, H19⟩, Hx, H4, Hcv, Hdue⟩
    iapply (copy_runs d L arg2 harg2 arg3 harg3 arg4 harg4 arg5 harg5 arg6 harg6 arg7 harg7 arg8 harg8 arg9 harg9 arg10 harg10 arg11 harg11 arg12 arg13 arg14 arg15 arg16 arg17 arg18 arg19 q fx O W f4 G4 hG4 (cond1_eq L) _ _)
    unfold copyRes
    isplitl [H6 H7 H16 H17 H18 H19 Hx H4 Hdue]
    · isplitl [H6]; · iexact H6
      isplitl [H7]; · iexact H7
      isplitl [H16]; · iexact H16
      isplitl [H17]; · iexact H17
      isplitl [H18]; · iexact H18
      isplitl [H19]; · iexact H19
      isplitl [Hx]; · iexact Hx
      isplitl [H4]; · iexact H4
      iexact Hdue
    iintro ⟨H6, H7, H16, H17, H18, H19, Hx, H4, Hdue⟩
    iapply (cv_runs d (tc L) (ti L) arg2 arg3 0 q fx f3 G3 (base L) 25 O W (base_le L) (by decide) (by decide) arg8 arg9 arg10 arg11 arg12.sem arg13.sem arg14.sem arg15.sem
      harg8.wordExact harg10.wordExact harg11.wordExact _ _ (off20_eq L) _ _ t3_trips _
      (t3_step d L arg2 harg2 arg3 harg3 arg4 harg4 arg5 harg5 arg6 harg6 arg7 harg7 arg8 harg8 arg9 harg9 arg10 harg10 arg11 harg11 arg12 arg13 arg14 arg15 arg16 arg17 arg18 arg19 q fx f3 G3 O W hG3 ((cond16_iff L).mpr hw) _) _ _ _ _ _ _ _)
    unfold cvRes
    isplitl [H8 H9 H10 H11 H12 H13 H14 H15 Hx Hcv Hdue]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [Hx]; · iexact Hx
      isplitl [Hcv]; · iexact Hcv
      iexact Hdue
    iintro ⟨H8, H9, H10, H11, H12, H13, H14, H15, Hx, Hcv, Hdue⟩
    iapply (le_wp_ret _ _ _ _ _)
    isplitl [H6 H7 H8 H9 H10 H11]
    · isplitl [H6]; · iexact H6
      isplitl [H7]; · iexact H7
      isplitl [H8]; · iexact H8
      isplitl [H9]; · iexact H9
      isplitl [H10]; · iexact H10
      iexact H11
    isplitl [H12 H13 H14 H15 H16 H17 H18 H19]
    · isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [Hx]; · iexact Hx
    isplitl [H4]; · iexact H4
    isplitl [Hcv]; · iexact Hcv
    iexact Hdue
  · simp only [if_neg hw]
    rw [dif_neg (fun h => hw ((cond16_iff L).mp h)), dif_pos ((cond23_iff L).mpr (by omega))]
    iintro ⟨⟨H6, H7, H8, H9, H10, H11⟩, ⟨H12, H13, H14, H15, H16, H17, H18, H19⟩, Hx, H4, Hcv, Hdue⟩
    iapply (copy_runs d L arg2 harg2 arg3 harg3 arg4 harg4 arg5 harg5 arg6 harg6 arg7 harg7 arg8 harg8 arg9 harg9 arg10 harg10 arg11 harg11 arg12 arg13 arg14 arg15 arg16 arg17 arg18 arg19 q fx O W f4 G4 hG4 (cond1_eq L) _ _)
    unfold copyRes
    isplitl [H6 H7 H16 H17 H18 H19 Hx H4 Hdue]
    · isplitl [H6]; · iexact H6
      isplitl [H7]; · iexact H7
      isplitl [H16]; · iexact H16
      isplitl [H17]; · iexact H17
      isplitl [H18]; · iexact H18
      isplitl [H19]; · iexact H19
      isplitl [Hx]; · iexact Hx
      isplitl [H4]; · iexact H4
      iexact Hdue
    iintro ⟨H6, H7, H16, H17, H18, H19, Hx, H4, Hdue⟩
    iapply (cv_runs d (tc L) (ti L) arg2 arg5 5 q fx f5 G5 (base L) 25 O W (base_le L) (by decide) (by decide) arg8 arg9 arg10 arg11 arg12.sem arg13.sem arg14.sem arg15.sem
      harg8.wordExact harg10.wordExact harg11.wordExact _ _ (off46_eq L) _ _ t6_trips _
      (t6_step d L arg2 harg2 arg3 harg3 arg4 harg4 arg5 harg5 arg6 harg6 arg7 harg7 arg8 harg8 arg9 harg9 arg10 harg10 arg11 harg11 arg12 arg13 arg14 arg15 arg16 arg17 arg18 arg19 q fx f5 G5 O W hG5 ((cond23_iff L).mpr (by omega)) _) _ _ _ _ _ _ _)
    unfold cvRes
    isplitl [H8 H9 H10 H11 H12 H13 H14 H15 Hx Hcv Hdue]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [Hx]; · iexact Hx
      isplitl [Hcv]; · iexact Hcv
      iexact Hdue
    iintro ⟨H8, H9, H10, H11, H12, H13, H14, H15, Hx, Hcv, Hdue⟩
    iapply (le_wp_ret _ _ _ _ _)
    isplitl [H6 H7 H8 H9 H10 H11]
    · isplitl [H6]; · iexact H6
      isplitl [H7]; · iexact H7
      isplitl [H8]; · iexact H8
      isplitl [H9]; · iexact H9
      isplitl [H10]; · iexact H10
      iexact H11
    isplitl [H12 H13 H14 H15 H16 H17 H18 H19]
    · isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [Hx]; · iexact Hx
    isplitl [H4]; · iexact H4
    isplitl [Hcv]; · iexact Hcv
    iexact Hdue

end

end Cert.Proof.Sc

end
-- ==== Proof.Tiles.lean ====
/-
  What the SparseCore call's handshakes carry, the tiles' obligation, and how a SparseCore's operands are dealt to its tiles.
-/
module

public import proofs.«01_k».proof.Proof.TileBody

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownSems0 ownBufs mem_ownCells ownCells ownRefs)
open Idealize.ShloMosaic.Transfers (MayWaits shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## A tile's own buffers and semaphores -/

section Own

variable {M : Type} [URA M]

theorem bigSep_six (Φ : Fin 6 → sProp M) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

theorem bigSep_eight (Φ : Fin 8 → sProp M) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- A family over a set that holds the values of an injection is those and the others. -/
theorem bigSep_take {I J : Type} [DecidableEq I] [DecidableEq J] [Fintype J] (s : Finset I) (f : J → I) (hf : Function.Injective f) (hs : ∀ j, f j ∈ s) (Φ : I → sProp M) :
    bigSep s Φ = iprop((bigSep Finset.univ fun j => Φ (f j)) ∗ bigSep (s \ Finset.univ.image f) Φ) := by
  rw [SparseCore.bigSep_sdiff_split' (show Finset.univ.image f ⊆ s from fun x hx => by
    obtain ⟨j, -, rfl⟩ := Finset.mem_image.mp hx; exact hs j), SparseCore.bigSep_image_of_injOn hf.injOn]

end Own

/-- The eight semaphores of a tile, in the body's order, -/
def tileSem : Fin 8 → DmaSem sig :=
  ![cc0_scratch6.sem, cc0_scratch7.sem, cc0_scratch8.sem, cc0_scratch9.sem, cc0_scratch10.sem, cc0_scratch11.sem, cc0_scratch12.sem, cc0_scratch13.sem]
/-- and its six buffers. -/
def tileRef : Fin 6 → Ref sig .scVector := ![cc0_scratch0, cc0_scratch1, cc0_scratch2, cc0_scratch3, cc0_scratch4, cc0_scratch5]

theorem tileSem_inj : Function.Injective tileSem := by decide
theorem tileRef_inj : Function.Injective tileRef := by decide

section OwnTile

variable (d : Dev nD) (c : Fin τ.nSC) (i : Fin τ.nSub)

/-- A tile's other semaphores at zero, -/
def otherSems : sProp 𝕄 :=
  bigSep (ownCells (V d c i) \ Finset.univ.image fun j => ((V d c i, SemLoc.dma (tileSem j)) : GSem nD τ sig)) fun g => semVal g 0
/-- and its other buffers. -/
def otherBufs : sProp 𝕄 :=
  bigSep (ownRefs (τ := τ) (.scVector c i) \ Finset.univ.image fun j => (Proc.scVector c i).devRef (tileRef j)) fun b => iprop(∃ f, ((d, b) : Loc nD τ sig) ↦{fullShare} f)

theorem ownSems_tile : (ownSems0 (V d c i) : sProp 𝕄)
    = iprop((rest d c i cc0_scratch6.sem ∗ rest d c i cc0_scratch7.sem ∗ rest d c i cc0_scratch8.sem ∗ rest d c i cc0_scratch9.sem
        ∗ rest d c i cc0_scratch10.sem ∗ rest d c i cc0_scratch11.sem ∗ rest d c i cc0_scratch12.sem ∗ rest d c i cc0_scratch13.sem) ∗ otherSems d c i) := by
  unfold ownSems0 otherSems
  rw [bigSep_take (ownCells (V d c i)) (fun j => ((V d c i, SemLoc.dma (tileSem j)) : GSem nD τ sig))
    (fun a b e => tileSem_inj (SemLoc.dma.inj (Prod.mk.inj e).2))
    (fun j => mem_ownCells.mpr ⟨rfl, (show ∀ j, (SemLoc.dma (tileSem j) : SemLoc sig).isScoped .scVector = true by decide) j⟩), bigSep_eight]
  rfl

theorem ownBufs_tile : (ownBufs (V d c i) : sProp 𝕄)
    = iprop((hole d c i (Memref.whole cc0_scratch0) ∗ hole d c i (Memref.whole cc0_scratch1) ∗ hole d c i (Memref.whole cc0_scratch2)
        ∗ hole d c i (Memref.whole cc0_scratch3) ∗ hole d c i (Memref.whole cc0_scratch4) ∗ hole d c i (Memref.whole cc0_scratch5)) ∗ otherBufs d c i) := by
  unfold ownBufs otherBufs hole
  rw [bigSep_take (ownRefs (τ := τ) (.scVector c i)) (fun j => (Proc.scVector c i).devRef (tileRef j))
    (fun a b e => tileRef_inj (Proc.devRef_injective _ e))
    (fun j => SparseCore.Cfg.mem_ownRefs_of_owner (p := Proc.scVector c i) (b := (Proc.scVector c i).devRef (tileRef j))
      (by revert j; intro j; fin_cases j <;> rfl)), bigSep_six]
  simp only [Memref.view_whole, View.set_whole]
  rfl

end OwnTile

end Cert.Proof.Sc

end
-- ==== Proof.Call.lean ====
/-
  The SparseCore call: what its handshakes carry, the tiles' obligation, how a SparseCore's operands go out to its tiles.
-/
module

public import proofs.«01_k».proof.Proof.Tiles

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownSems0 ownBufs mem_ownCells ownCells ownRefs)
open Idealize.ShloMosaic.Transfers (MayWaits shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The arrays -/

/-- The transposed argument, and the three results of the call, as the tiles name them. -/
abbrev xV : Memref sig .scVector .hbm S9x200x16384 .f32 := Memref.whole main_v0_scv
abbrev stV : Memref sig .scVector .hbm S200x1x16384 .i32 := Memref.whole main_v1_0_scv
abbrev krV : Memref sig .scVector .hbm S200x4x16384 .f32 := Memref.whole main_v1_1_scv
abbrev kcV : Memref sig .scVector .hbm S200x1x16384 .i32 := Memref.whole main_v1_2_scv

/-- The same arrays, as places of a device's memory. -/
abbrev xLoc (d : Dev nD) : Loc nD τ sig := (SparseCore.T d).loc main_v0
abbrev stLoc (d : Dev nD) : Loc nD τ sig := (SparseCore.T d).loc main_v1_0
abbrev krLoc (d : Dev nD) : Loc nD τ sig := (SparseCore.T d).loc main_v1_1
abbrev kcLoc (d : Dev nD) : Loc nD τ sig := (SparseCore.T d).loc main_v1_2

/-- The contents of the four arrays on one device: the transposed argument and the call's three results. -/
structure Arrays (F : FTy → Type) (d : Dev nD) where
  x : Buf (Elt F) (xLoc d)
  st : Buf (Elt F) (stLoc d)
  kr : Buf (Elt F) (krLoc d)
  kc : Buf (Elt F) (kcLoc d)

/-- The grid point of tile `i` of SparseCore `c`. -/
def pt (c : Fin 2) (i : Fin 16) : grid0.Coords :=
  fun | 0 => c | 1 => i | ⟨_ + 2, h⟩ => absurd h (Nat.not_lt.2 (Nat.le_add_left _ _))

/-- The share of the transposed argument that a SparseCore reads by, -/
abbrev coreShare (c : Fin 2) : PosShare TreeShare := shareTok fullShare 2 c
/-- and one of its tiles. -/
abbrev tileShare (c : Fin 2) (i : Fin 16) : PosShare TreeShare := shareTok (coreShare c) 16 i

section Ops

variable (d : Dev nD)

/-- A tile's items of the results. -/
def items (c : Fin 2) (i : Fin 16) (A : Arrays F d) : sProp 𝕄 :=
  iprop(pc d (tc (pt c i)) (ti (pt c i)) krV krItem (lo (pt c i)) (lo (pt c i) + cnt (pt c i)) A.kr
    ∗ (if wid (pt c i) < 16 then pc d (tc (pt c i)) (ti (pt c i)) stV cvItem (base (pt c i)) (base (pt c i) + 25) A.st
        else pc d (tc (pt c i)) (ti (pt c i)) kcV cvItem (base (pt c i)) (base (pt c i) + 25) A.kc))

/-- A tile's operands: its share of the transposed argument and its items of the results. -/
def tileOps (c : Fin 2) (i : Fin 16) (A : Arrays F d) : sProp 𝕄 :=
  iprop((xLoc d ↦{tileShare c i} A.x) ∗ items d c i A)

/-- A SparseCore's operands: its share of the transposed argument and its tiles' items. -/
def coreOps (c : Fin 2) (A : Arrays F d) : sProp 𝕄 :=
  iprop((xLoc d ↦{coreShare c} A.x) ∗ bigSep Finset.univ fun i : Fin 16 => items d c i A)

instance items_storable (c : Fin 2) (i : Fin 16) (A : Arrays F d) : BI.Storable (upEmb : UEmb _ 𝕄) (items d c i A) := by
  unfold items
  split <;> infer_instance

instance tileOps_storable (c : Fin 2) (i : Fin 16) (A : Arrays F d) : BI.Storable (upEmb : UEmb _ 𝕄) (tileOps d c i A) := by
  unfold tileOps; infer_instance

instance coreOps_storable (c : Fin 2) (A : Arrays F d) : BI.Storable (upEmb : UEmb _ 𝕄) (coreOps d c A) := by
  unfold coreOps; infer_instance

end Ops

theorem nCore_zero : (K (F := F)).nCore 0 = 2 := rfl
theorem nSub_zero : (K (F := F)).nSub 0 = 16 := rfl

/-- The call takes the arrays at contents `A` and brings them back at contents `B`. -/
def P (A B : (d : Dev nD) → Arrays F d) : (K (F := F)).Pay (nD := nD) (Val := Elt F) (Name := ℕ) (U := UU) where
  st := fun q d c => match q with | 0 => coreOps d (Fin.cast nCore_zero c) (A d)
  dn := fun q d c => match q with | 0 => coreOps d (Fin.cast nCore_zero c) (B d)
  go := fun q d c i => match q with | 0 => tileOps d (Fin.cast nCore_zero c) (Fin.cast nSub_zero i) (A d)
  td := fun q d c i => match q with | 0 => tileOps d (Fin.cast nCore_zero c) (Fin.cast nSub_zero i) (B d)
  x := fun _ _ => iprop(emp)

instance P_storable (A B : (d : Dev nD) → Arrays F d) : (P A B).IsStorable where
  st q d c := match q with | 0 => coreOps_storable d _ _
  dn q d c := match q with | 0 => coreOps_storable d _ _
  go q d c i := match q with | 0 => tileOps_storable d _ _ _
  td q d c i := match q with | 0 => tileOps_storable d _ _ _

/-- A SparseCore's operands go out to its tiles and come back from them. -/
theorem vecSplit (A B : (d : Dev nD) → Arrays F d) (hx : ∀ d, (B d).x = (A d).x) : (K (F := F)).VecSplit' (P A B) 0 := by
  intro d c
  show coreOps d (Fin.cast nCore_zero c) (A d) ⊢ |={Set.univ}=> iprop((bigSep Finset.univ fun i : Fin 16 => tileOps d (Fin.cast nCore_zero c) i (A d))
    ∗ ((bigSep Finset.univ fun i : Fin 16 => tileOps d (Fin.cast nCore_zero c) i (B d)) -∗ coreOps d (Fin.cast nCore_zero c) (B d)))
  unfold coreOps tileOps
  rw [bigSep_sep', bigSep_sep', hx d]
  iintro ⟨Hx, Hi⟩
  ihave Hs := (pointsTo_toks_split (coreShare (Fin.cast nCore_zero c)) 16) $$ Hx
  icases Hs with ⟨Hd, Hs⟩
  imodintro
  isplitl [Hs Hi]
  · isplitl [Hs]; · iexact Hs
    iexact Hi
  iintro ⟨Hs, Hi⟩
  isplitl [Hd Hs]
  · iapply (pointsTo_toks_join (coreShare (Fin.cast nCore_zero c)) 16)
    isplitl [Hd]; · iexact Hd
    iexact Hs
  iexact Hi

section Obl

variable [FloatOps F]

/-- What the call computes, from the transposed argument. -/
def done (d : Dev nD) (A : Arrays F d) : Arrays F d := ⟨A.x, cvG A.x 0, krG A.x, cvG A.x 5⟩

theorem defs₀_vector (c : Fin τ.nSC) (s : Fin τ.nSub) :
    defs₀ (F := F) (.scVector c s) 0 ()
      = SparseCore.onTile hcore0 hsub0 (fun c s => cc0__sc_body (pt c s)
          xV (Memref.isWhole_whole _) stV (Memref.isWhole_whole _) krV (Memref.isWhole_whole _) kcV (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13) ⟨⟩ c s := rfl

/-- A tile's body, from the tile's operands to its results. -/
theorem tile_runs (d : Dev nD) (c : Fin 2) (i : Fin 16) (A : Arrays F d) (O : CellTallies nD τ sig (HIx 1)) (W : Waits sig (HIx 1)) (hO : ∀ g, O g none = 0) :
    iprop(levAts (K (F := F)).L (K (F := F)).lev ∗ emp ∗ tileOps d c i A
        ∗ scopedBufs (V d (tc (pt c i)) (ti (pt c i))) ∗ scopedSems0 (V d (tc (pt c i)) (ti (pt c i))) ∗ owes (V d (tc (pt c i)) (ti (pt c i))) O W)
      ⊢ runs d (tc (pt c i)) (ti (pt c i)) (cc0__sc_body (pt c i)
          xV (Memref.isWhole_whole _) stV (Memref.isWhole_whole _) krV (Memref.isWhole_whole _) kcV (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13) fun _ =>
        iprop(tileOps d c i (done d A) ∗ scopedBufs (V d (tc (pt c i)) (ti (pt c i))) ∗ scopedSems0 (V d (tc (pt c i)) (ti (pt c i)))
          ∗ ∃ W', ⌜∀ p ∈ W', p ∈ W ∨ p.2 = none ∨ p.2 = some 0⌝ ∗ owes (V d (tc (pt c i)) (ti (pt c i))) O W') := by
  rw [(K (F := F)).scopedBufs_V facts d, SparseCore.Cfg.scopedSems0_V (Val := Elt F) d, ownSems_tile, ownBufs_tile]
  unfold tileOps items
  iintro ⟨#Hlv, -, ⟨Hx, Hk, Hc⟩, ⟨Hb, Hbr⟩, ⟨Hs, Hsr⟩, HO⟩
  iapply (wp_wand_r _ _ _)
  isplitl [Hx Hk Hc Hb Hs HO]
  · iapply (body_runs d (pt c i) xV (Memref.isWhole_whole _) stV (Memref.isWhole_whole _) krV (Memref.isWhole_whole _) kcV (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13
      (tileShare c i) A.x O W A.st (done d A).st A.kr (done d A).kr A.kc (done d A).kc rfl rfl rfl)
    unfold tileRes
    isplitl [Hb]; · iexact Hb
    isplitl [Hs]; · iexact Hs
    isplitl [Hx]; · iexact Hx
    isplitl [Hk]; · iexact Hk
    isplitl [Hc]; · iexact Hc
    unfold Due Owes
    isplitr [HO]
    · iapply ((K (F := F)).mayWaits_none (thr := V d (tc (pt c i)) (ti (pt c i))) hO); iexact Hlv
    iexists W
    isplitr; · ipureintro; exact fun p hp => .inl hp
    iexact HO
  iintro %_y
  unfold tileRes Due Owes
  iintro ⟨Hb, Hs, Hx, Hk, Hc, -, %W', %hW', HO⟩
  isplitl [Hx Hk Hc]
  · isplitl [Hx]; · iexact Hx
    isplitl [Hk]; · iexact Hk
    iexact Hc
  isplitl [Hb Hbr]
  · isplitl [Hb]; · iexact Hb
    iexact Hbr
  isplitl [Hs Hsr]
  · isplitl [Hs]; · iexact Hs
    iexact Hsr
  iexists W'
  isplitr
  · ipureintro; exact fun p hp => (hW' p hp).imp_right Or.inl
  iexact HO

set_option maxHeartbeats 2000000 in
theorem tileObl (A : (d : Dev nD) → Arrays F d) : (K (F := F)).TileObl (D (F := F)) 𝒱 (P A fun d => done d (A d)) v₀ 0 := by
  intro d c i O W hO _ _
  simp only [show (P A fun d => done d (A d)).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_runs d ⟨_, hc.1⟩ ⟨_, hc.2⟩ (A d) O W hO

end Obl

end Cert.Proof.Sc

end
-- ==== Proof.Deal.lean ====
/-
  The results of the SparseCore call, dealt out to the tiles and gathered from them.
-/
module

public import proofs.«01_k».proof.Proof.Call

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownSems0 ownBufs mem_ownCells ownCells ownRefs)
open Idealize.ShloMosaic.Transfers (MayWaits shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-- An array is the pieces of its tiles, if their runs of items are apart and hold every item. -/
theorem dealt {ℓ : Loc nD τ sig} {s : Shape} (emb : s.Idx ↪ Idx ℓ) (hs : Function.Surjective emb) (item : s.Idx → ℕ) (l h : Fin 2 × Fin 16 → ℕ)
    (hd : ∀ t t', t ≠ t' → h t ≤ l t' ∨ h t' ≤ l t) (hc : ∀ j, ∃ t, l t ≤ item j ∧ item j < h t) (f : Buf (Elt F) ℓ) :
    (ℓ ↦{fullShare} f : sProp 𝕄)
      = bigSep Finset.univ fun c : Fin 2 => bigSep Finset.univ fun i : Fin 16 => ℓ ↦[(rng item (l (c, i)) (h (c, i))).map emb]{fullShare} f := by
  rw [← BI.bigSep_univ_prod (fun t : Fin 2 × Fin 16 => (ℓ ↦[(rng item (l t) (h t)).map emb]{fullShare} f : sProp 𝕄)),
    ← pointsTo_biUnion Finset.univ (fun t => (rng item (l t) (h t)).map emb)]
  · refine congrArg (fun S => (ℓ ↦[S]{fullShare} f : sProp 𝕄)) (Finset.eq_univ_iff_forall.mpr fun x => ?_).symm
    obtain ⟨j, rfl⟩ := hs x
    obtain ⟨t, ht⟩ := hc j
    exact Finset.mem_biUnion.mpr ⟨t, Finset.mem_univ _, Finset.mem_map_of_mem _ (mem_rng.mpr ht)⟩
  · intro t _ t' _ hn
    refine (Finset.disjoint_map _).mpr ?_
    rcases hd t t' hn with h' | h'
    · exact rng_disjoint item _ _ _ _ h'
    · exact (rng_disjoint item _ _ _ _ h').symm

/-- The tile's number, from its SparseCore and its place there. -/
theorem wid_pt (t : Fin 2 × Fin 16) : wid (pt t.1 t.2) = 2 * t.2.val + t.1.val := rfl

theorem eq_of_wid {t t' : Fin 2 × Fin 16} (h : wid (pt t.1 t.2) = wid (pt t'.1 t'.2)) : t = t' := by
  rw [wid_pt, wid_pt] at h
  have h1 := t.1.isLt; have h2 := t'.1.isLt
  exact Prod.ext (Fin.ext (by omega)) (Fin.ext (by omega))

/-- The tile of a number. -/
def ofWid (n : ℕ) (h : n < 32) : Fin 2 × Fin 16 := (⟨n % 2, Nat.mod_lt _ (by decide)⟩, ⟨n / 2, by omega⟩)

theorem wid_ofWid (n : ℕ) (h : n < 32) : wid (pt (ofWid n h).1 (ofWid n h).2) = n := by
  rw [wid_pt]; show 2 * (n / 2) + n % 2 = n; omega

theorem kr_apart (t t' : Fin 2 × Fin 16) (hn : t ≠ t') :
    lo (pt t.1 t.2) + cnt (pt t.1 t.2) ≤ lo (pt t'.1 t'.2) ∨ lo (pt t'.1 t'.2) + cnt (pt t'.1 t'.2) ≤ lo (pt t.1 t.2) := by
  have h : wid (pt t.1 t.2) ≠ wid (pt t'.1 t'.2) := fun h => hn (eq_of_wid h)
  unfold lo cnt; omega

theorem kr_item (j : S200x4x16384.Idx) : ∃ t : Fin 2 × Fin 16, lo (pt t.1 t.2) ≤ krItem j ∧ krItem j < lo (pt t.1 t.2) + cnt (pt t.1 t.2) := by
  have h0 : (j 0).val < 200 := (j 0).isLt
  have h2 : (j 2).val < 16384 := (j 2).isLt
  have hk : krItem j < 400 := by unfold krItem; omega
  refine ⟨ofWid ((2 * krItem j + 1) / 25) (by omega), ?_⟩
  unfold lo cnt; rw [wid_ofWid]; omega

theorem cv_item (j : S200x1x16384.Idx) : cvItem j < 400 := by
  have h0 : (j 0).val < 200 := (j 0).isLt
  have h2 : (j 2).val < 16384 := (j 2).isLt
  unfold cvItem; omega

/-- The runs of the tiles that convert a plane (those for which `b` says so); the others have none. -/
def cvLo (b : Bool) (t : Fin 2 × Fin 16) : ℕ := if decide (wid (pt t.1 t.2) < 16) = b then base (pt t.1 t.2) else 0
def cvHi (b : Bool) (t : Fin 2 × Fin 16) : ℕ := if decide (wid (pt t.1 t.2) < 16) = b then base (pt t.1 t.2) + 25 else 0

theorem cv_apart (b : Bool) (t t' : Fin 2 × Fin 16) (hn : t ≠ t') : cvHi b t ≤ cvLo b t' ∨ cvHi b t' ≤ cvLo b t := by
  have h : wid (pt t.1 t.2) ≠ wid (pt t'.1 t'.2) := fun h => hn (eq_of_wid h)
  have h1 : wid (pt t.1 t.2) < 32 := by rw [wid_pt]; omega
  have h2 : wid (pt t'.1 t'.2) < 32 := by rw [wid_pt]; omega
  unfold cvHi cvLo base
  by_cases a : wid (pt t.1 t.2) < 16 <;> by_cases a' : wid (pt t'.1 t'.2) < 16 <;> cases b <;> simp only [a, a', decide_true, decide_false, if_true, if_false, Bool.true_eq_false, Bool.false_eq_true] <;> omega

theorem cv_has (b : Bool) (j : S200x1x16384.Idx) : ∃ t, cvLo b t ≤ cvItem j ∧ cvItem j < cvHi b t := by
  have hj := cv_item j
  refine ⟨ofWid (cvItem j / 25 + if b then 0 else 16) (by split <;> omega), ?_⟩
  unfold cvLo cvHi base
  rw [wid_ofWid]
  have h16 : cvItem j / 25 < 16 := by omega
  cases b <;> simp [h16] <;> omega

section

variable (d : Dev nD)

theorem pc_kr (c : Fin 2) (i : Fin 16) (l h : ℕ) (f : Buf (Elt F) (krLoc d)) :
    (krLoc d ↦[(rng krItem l h).map krV.view.emb]{fullShare} f : sProp 𝕄) = pc d (tc (pt c i)) (ti (pt c i)) krV krItem l h f := rfl

/-- The three results, whole, are the tiles' items. -/
theorem results_dealt (A : Arrays F d) :
    (iprop((krLoc d ↦{fullShare} A.kr) ∗ (stLoc d ↦{fullShare} A.st) ∗ (kcLoc d ↦{fullShare} A.kc)) : sProp 𝕄)
      = bigSep Finset.univ fun c : Fin 2 => bigSep Finset.univ fun i : Fin 16 => items d c i A := by
  rw [dealt (ℓ := krLoc d) (s := S200x4x16384) krV.view.emb (fun x => ⟨x, rfl⟩) krItem (fun t => lo (pt t.1 t.2)) (fun t => lo (pt t.1 t.2) + cnt (pt t.1 t.2)) kr_apart kr_item A.kr,
    dealt (ℓ := stLoc d) (s := S200x1x16384) stV.view.emb (fun x => ⟨x, rfl⟩) cvItem (cvLo true) (cvHi true) (cv_apart true) (cv_has true) A.st,
    dealt (ℓ := kcLoc d) (s := S200x1x16384) kcV.view.emb (fun x => ⟨x, rfl⟩) cvItem (cvLo false) (cvHi false) (cv_apart false) (cv_has false) A.kc,
    ← bigSep_sep', ← bigSep_sep']
  refine bigSep_congr fun c _ => ?_
  rw [← bigSep_sep', ← bigSep_sep']
  refine bigSep_congr fun i _ => ?_
  unfold items cvLo cvHi
  by_cases hw : wid (pt c i) < 16
  · simp only [hw, decide_true, if_true, Bool.true_eq_false, if_false]
    rw [rng_empty (item := cvItem) (l := 0) (h := 0) le_rfl, Finset.map_empty, pointsTo_empty]
    exact congrArg (fun R : sProp 𝕄 => iprop(pc d (tc (pt c i)) (ti (pt c i)) krV krItem (lo (pt c i)) (lo (pt c i) + cnt (pt c i)) A.kr ∗ R)) (BI.equiv_iff.mp BI.sep_emp)
  · simp only [hw, decide_false, if_true, Bool.false_eq_true, if_false]
    rw [rng_empty (item := cvItem) (l := 0) (h := 0) le_rfl, Finset.map_empty, pointsTo_empty]
    exact congrArg (fun R : sProp 𝕄 => iprop(pc d (tc (pt c i)) (ti (pt c i)) krV krItem (lo (pt c i)) (lo (pt c i) + cnt (pt c i)) A.kr ∗ R)) (BI.equiv_iff.mp BI.emp_sep)

end

/-- What the SparseCores take and bring back, gathered: the transposed argument, shared, and the three results. -/
theorem operands (d : Dev nD) (A : Arrays F d) :
    (bigSep Finset.univ fun c : Fin 2 => coreOps d c A : sProp 𝕄)
      = iprop((bigSep Finset.univ fun c : Fin 2 => (xLoc d ↦{coreShare c} A.x)) ∗ (krLoc d ↦{fullShare} A.kr) ∗ (stLoc d ↦{fullShare} A.st) ∗ (kcLoc d ↦{fullShare} A.kc)) := by
  unfold coreOps
  rw [bigSep_sep', results_dealt]

end Cert.Proof.Sc

end
-- ==== Proof.Region.lean ====
/-
  The TensorCore call, which copies the planes 6, 7 and 8 of the transposed argument, block by block.
-/
module

public import proofs.«01_k».proof.Proof.Call
public import proofs.«01_k».proof.Proof.Gen.KernelIdeal.Launch
public import proofs.«01_k».proof.Proof.Gen.KernelIdeal.Points
public import Idealize.ShloMosaic.Lib.Pipeline.RegionArrays

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownSems0 ownBufs mem_ownCells ownCells ownRefs)
open Idealize.ShloMosaic.Transfers (MayWaits shareTok shareDrop pointsTo_toks_split pointsTo_toks_join)
open Idealize.ShloMosaic.Pipeline (Dat Cfg Window BodyObligation RegionSeg)
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## What the call computes -/

/-- Planes 6, 7 and 8. -/
def obG {α : Type} (X : S9x200x16384.Idx → α) : S3x200x16384.Idx → α := fun j =>
  X (fun
    | 0 => ⟨6 + (j 0).val, by have h : (j 0).val < 3 := (j 0).isLt; show 6 + (j 0).val < 9; omega⟩
    | 1 => j 1
    | 2 => j 2
    | ⟨_ + 3, h⟩ => absurd h (Nat.not_lt.2 (Nat.le_add_left _ _)))

/-- The result's place in a device's memory. -/
abbrev obLoc (d : Dev nD) : Loc nD τ sig := (SparseCore.T d).loc main_v2

/-! ## The grid -/

theorem in_index : ∀ t : Fin grid1.N, (win1_0.index t 0 : ℕ) = 6 + t.val / 25 ∧ (win1_0.index t 1 : ℕ) = t.val % 25 ∧ (win1_0.index t 2 : ℕ) = 0 := by
  decide +kernel
theorem out_index : ∀ t : Fin grid1.N, (win1_1.index t 0 : ℕ) = t.val / 25 ∧ (win1_1.index t 1 : ℕ) = t.val % 25 ∧ (win1_1.index t 2 : ℕ) = 0 := by
  decide +kernel

/-! ## The body -/

/-- The rectangle the body reads and writes: the block, whole. -/
abbrev wholeBlock : Rect S1x8x16384 := Rect.unit (s := S1x8x16384) ![0, 0, 0] S1x8x16384.size inb_S1x8x16384_S1x8x16384_0_0_0

theorem wholeBlock_emb (x : S1x8x16384.Idx) : wholeBlock.emb x = x := by
  funext a
  refine Fin.ext ?_
  show ![0, 0, 0] a + 1 * (x a).val = (x a).val
  fin_cases a <;> simp

variable [FloatOps F]

theorem copy_runs_tc (d : Dev nD) (g : grid1.Coords) (M : Memref sig .tc .vmem S1x8x16384 .f32) (hM : M.IsWhole)
    (M' : Memref sig .tc .vmem S1x8x16384 .f32) (hM' : M'.IsWhole) (X Y : S1x8x16384.Idx → Elt F .f32) :
    iprop(owns (d : Thread nD τ) M fullShare X ∗ owns (d : Thread nD τ) M' fullShare Y)
      ⊢ (wp frame (wpE (defs₀ (F := F)) 𝒱₀ (d : Thread nD τ) none) Set.univ (cc1__tc_ob_body g M hM M' hM')
          fun _ => iprop(owns (d : Thread nD τ) M fullShare X ∗ owns (d : Thread nD τ) M' fullShare X) : sProp 𝕄) := by
  rw [cc1__tc_ob_body_eq_skeleton]
  unfold owns
  iintro ⟨⟨%f, %hf, H⟩, %f', %hf', H'⟩
  iapply (wp_load_rect 𝒱₀ (d : Thread nD τ) none Set.univ (m := M) (r := wholeBlock) (S := M.view.set) (View.set_slice_subset _ _)) $$ H
  iintro H
  iapply (wp_load_rect 𝒱₀ (d : Thread nD τ) none Set.univ (m := M') (r := wholeBlock) (S := M'.view.set) (View.set_slice_subset _ _)) $$ H'
  iintro H'
  iapply (wp_store 𝒱₀ (d : Thread nD τ) none Set.univ (m := M') (r := wholeBlock) (S := M'.view.set)
    ((View.setOn_subset_set _ _).trans (View.set_slice_subset _ _))) $$ H'
  iintro H'
  iapply (le_wp_ret _ _ _ _ _)
  isplitl [H]
  · iexists f; isplitr
    · ipureintro; exact hf
    · iexact H
  iexists _
  isplitr
  swap; (· iexact H')
  ipureintro
  funext x
  have h := View.read_slice_write_emb (v := M'.view) (r := wholeBlock) f' (k1_pay1 ((M.access wholeBlock).read (Elt F) f)) (x := x) (Finset.mem_univ x)
  rw [wholeBlock_emb] at h
  refine h.trans ?_
  unfold k1_pay1
  rw [shapeCast_self, ← hf]
  show M.view.read (Elt F) f (wholeBlock.emb x) = _
  rw [wholeBlock_emb]

/-! ## The call's run -/

section Reg

variable (X : (d : Dev nD) → Buf (Elt F) (xLoc d)) (Y : (d : Dev nD) → Buf (Elt F) (obLoc d))

/-- What is known of the run on one core: the arrays, what each block holds after the body, that the core owes nothing,
    and the bound on the waits it has recorded. -/
def dat (d : Dev nD) : Dat τ (Elt F) (HIx 1) ℕ UU ℕ cfg1 d where
  A w := match w with | ⟨0, _⟩ => X d | ⟨1, _⟩ => Y d
  after w t := match w with
    | ⟨0, _⟩ => ((cfg1.win 0).blk t).view.read (Elt F) (X d)
    | ⟨1, _⟩ => ((cfg1.win 0).blk t).view.read (Elt F) (X d)
  Φ _ := iprop(emp)
  q _ := fullShare
  owed _ := 0
  recorded _ := {p | (K (F := F)).lev (SparseCore.T d, p.1) p.2 ≤ 8 * 1}

/-- No table is prefetched. -/
abbrev adm : (p : Fin 1) → (pcfgs (F := F) p).Adm := fun p => (cfgs p).toPCfg_adm

abbrev dats : (p : Fin 1) → (d : Dev nD) → Dat τ (Elt F) (HIx 1) ℕ UU ℕ (Pipeline.pin (pcfgs (F := F)) adm p) d :=
  fun | 0 => dat X Y | ⟨_ + 1, h⟩ => absurd h (Nat.not_lt.2 (Nat.le_add_left _ _))

theorem before_in (d : Dev nD) (t : Fin cfg1.N) (e : (cfg1.win 0).block.Idx → Elt F (cfg1.win 0).elt) :
    (dat X Y d).before 0 t e = ((cfg1.win 0).blk t).view.read (Elt F) (X d) := by
  unfold Dat.before; rw [if_pos (fetch1_0 t)]; rfl

theorem body_obligation (d : Dev nD) : BodyObligation (dat X Y d) (defs₀ (F := F)) 𝒱₀ none Set.univ := fun t => by
  rw [bigSep_W1, bigSep_W1]
  rw [show (dat X Y d).Φ t.castSucc = iprop(emp) from rfl, show (dat X Y d).Φ t.succ = iprop(emp) from rfl,
    show (dat X Y d).owesAt none t.succ = (dat X Y d).owesAt none t.castSucc from rfl]
  have hb := before_in X Y d t
  iintro ⟨-, HO, ⟨%e, H⟩, %e', H'⟩
  ihave HW := (copy_runs_tc d (grid1.coords t) (win1_0.stage (cfg1.slots t 0)) (hstage1_0 ((cfg1.slots t 0).cast nbuf1_0))
    (win1_1.stage (cfg1.slots t 1)) (hstage1_1 ((cfg1.slots t 1).cast nbuf1_1)) ((dat X Y d).before 0 t e) ((dat X Y d).before 1 t e')) $$ [H H']
  · isplitl [H]; · iexact H
    iexact H'
  iapply (wp_wand_r _ _ _)
  isplitl [HW]; · iexact HW
  iintro %_y
  rw [hb e]
  iintro ⟨H, H'⟩
  isplitr; · iempintro
  isplitl [HO]; · iexact HO
  isplitl [H]; · iexact H
  iexact H'

/-- Where an element of the result lies in its block. -/
def inBlock (i : S3x200x16384.Idx) : S1x8x16384.Idx := fun
  | 0 => (0 : Fin 1)
  | 1 => (⟨(i 1).val % 8, Nat.mod_lt _ (by decide)⟩ : Fin 8)
  | 2 => (i 2 : Fin 16384)
  | ⟨_ + 3, h⟩ => absurd h (Nat.not_lt.2 (Nat.le_add_left _ _))

/-- The result at the end. -/
theorem final_out (d : Dev nD) : (dat X Y d).arrAt 1 cfg1.N = obG (X d) := by
  refine Dat.arrAt_eq_of_cover _ 1 _ (fun t _ => ?_) fun i => ?_
  · obtain ⟨h0, h1, h2⟩ := in_index t
    obtain ⟨g0, g1, g2⟩ := out_index t
    refine funext fun (y : S1x8x16384.Idx) => ?_
    show X d ((win1_0.rect t).emb y) = obG (X d) ((win1_1.rect t).emb y)
    unfold obG
    refine congrArg (X d) (funext fun a => Fin.ext ?_)
    have hy : (y 0).val < 1 := (y 0).isLt
    fin_cases a
    · refine (Pipeline.Window.rect_emb_val win1_0 t y 0).trans (Eq.trans ?_ (congrArg (6 + ·) (Pipeline.Window.rect_emb_val win1_1 t y 0)).symm)
      show _ * 1 + _ = 6 + (_ * 1 + _)
      rw [h0, g0]; omega
    · refine (Pipeline.Window.rect_emb_val win1_0 t y 1).trans (Eq.trans ?_ (Pipeline.Window.rect_emb_val win1_1 t y 1).symm)
      rw [h1, g1]
    · refine (Pipeline.Window.rect_emb_val win1_0 t y 2).trans (Eq.trans ?_ (Pipeline.Window.rect_emb_val win1_1 t y 2).symm)
      rw [h2, g2]
  · have i0 : (i 0).val < 3 := (i 0).isLt
    have i1 : (i 1).val < 200 := (i 1).isLt
    have i2 : (i 2).val < 16384 := (i 2).isLt
    have hN : 25 * (i 0).val + (i 1).val / 8 < grid1.N := by rw [N_1]; omega
    obtain ⟨g0, g1, g2⟩ := out_index ⟨_, hN⟩
    refine ⟨⟨_, hN⟩, flush1_1 _, Finset.mem_map.mpr ⟨inBlock i, Finset.mem_univ _, funext fun a => Fin.ext ?_⟩⟩
    fin_cases a
    · refine (Pipeline.Window.rect_emb_val win1_1 _ _ 0).trans ?_
      rw [g0]
      show (25 * (i 0).val + (i 1).val / 8) / 25 * 1 + 0 = (i 0).val
      omega
    · refine (Pipeline.Window.rect_emb_val win1_1 _ _ 1).trans ?_
      rw [g1]
      show (25 * (i 0).val + (i 1).val / 8) % 25 * 8 + (i 1).val % 8 = (i 1).val
      omega
    · refine (Pipeline.Window.rect_emb_val win1_1 _ _ 2).trans ?_
      rw [g2]
      show 0 * 16384 + (i 2).val = (i 2).val
      omega

/-- What the core holds of the memory: the transposed argument and the result; and that it owes nothing. -/
def tcHas (d : Dev nD) (x : Buf (Elt F) (xLoc d)) (y : Buf (Elt F) (obLoc d)) : sProp 𝕄 :=
  iprop((xLoc d ↦{fullShare} x) ∗ (obLoc d ↦{fullShare} y)
    ∗ ∃ W, ⌜(K (F := F)).WBelow (SparseCore.T d) W (8 * 1)⌝ ∗ owes (SparseCore.T d) (0 : CellTallies nD τ sig (HIx 1)) W)

theorem bound_below (d : Dev nD) (t : Fin (cfg1.N + 1)) (W : Waits sig (HIx 1)) (h : ∀ p ∈ W, p ∈ (dat X Y d).bound none t) :
    (K (F := F)).WBelow (SparseCore.T d) W (8 * 1) := fun p hp => by
  rcases h p hp with h | ⟨w, s, rfl⟩
  · exact h
  · exact Nat.zero_le _

theorem arrays_two (d : Dev nD) (G : (w : Fin cfg1.W) → Buf (Elt F) ((cfg1.win w).arr.view.loc (d.tc : Thread nD τ))) :
    ((dats X Y 0 d).arrays G : sProp 𝕄) = iprop((xLoc d ↦{fullShare} G 0) ∗ (obLoc d ↦{fullShare} G 1)) := by
  rw [Pipeline.arrays_eq (Pipeline.pin (pcfgs (F := F)) adm) (dats X Y) 0 d launch1.arr_whole ((dats X Y 0 d).share_full fun _ => rfl) G]
  exact bigSep_W1 _

set_option backward.isDefEq.respectTransparency.types false in
/-- The call as a step of the core's program. -/
def reg : RegionSeg (pcfgs (F := F)) adm (dats X Y) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation X Y d).loose
  hwaits := Pipeline.hwaits_of_owed_zero _ _ _ _ (K (F := F)).L (K (F := F)).lev 0 fun _ _ => rfl
  pre d := tcHas d (X d) (Y d)
  post d := tcHas d (X d) (obG (X d))
  X _ := iprop(emp)
  Y _ := iprop(emp)
  Z _ := iprop(emp)
  hentry d := by
    rw [Pipeline.ownSems0_none, Pipeline.prefHeld_of_none _ rfl, arrays_two]
    unfold tcHas
    iintro ⟨⟨Hx, Hy, %W, %hW, HO⟩, -, -⟩
    imodintro
    isplitl [Hx Hy]
    · isplitl [Hx]; · iexact Hx
      iexact Hy
    isplitr; · iempintro
    isplitl [HO]
    · unfold Pipeline.Dat.owesAt Pipeline.owesWithin
      iexists W
      isplitr
      · ipureintro; exact fun p hp => Or.inl (hW p hp)
      iexact HO
    isplitr; · iempintro
    iempintro
  hin d := by
    rw [show (dats X Y 0 d).Φ 0 = iprop(emp) from rfl]
    iintro -; iempintro
  hout d := by
    rw [Pipeline.ownSems0_none, scopedRest1_eq]
    iintro -
    isplitr; · iempintro
    isplitr; · iempintro
    iempintro
  hexit d := by
    rw [arrays_two, show (dats X Y 0 d).arrAt 1 cfg1.N = obG (X d) from final_out X Y d, show (dats X Y 0 d).arrAt 0 cfg1.N = X d from (dat X Y d).arrAt_in 0 rfl _]
    unfold tcHas Pipeline.Dat.owesAt Pipeline.owesWithin
    iintro ⟨⟨Hx, Hy⟩, ⟨%W, %hW, HO⟩, -, -⟩
    imodintro
    isplitl [Hx]; · iexact Hx
    isplitl [Hy]; · iexact Hy
    iexists W
    isplitr
    · ipureintro; exact bound_below X Y d _ W hW
    iexact HO

end Reg

end Cert.Proof.Sc

end
-- ==== Proof.Steps.lean ====
/-
  The steps of the program on a TensorCore: a transpose, the SparseCore call, the TensorCore call.
-/
module

public import proofs.«01_k».proof.Proof.Deal
public import proofs.«01_k».proof.Proof.Region
public import Idealize.ShloMosaic.Lib.SparseCore.Quiescent

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownSems0 ownBufs mem_ownCells ownCells ownRefs)
open Idealize.ShloMosaic.Transfers (MayWaits shareTok shareDrop pointsTo_toks_split pointsTo_toks_join)
open Idealize.ShloMosaic.Pipeline (Dat Cfg Window BodyObligation RegionSeg)
open Idealize.ShloMosaic.TcCoe
open Idealize.ShloMosaic.StableHlo (held wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

section Steps

variable [FloatOps F] (d : Dev nD)

/-- A host operation of one operand: the result's buffer takes the function's value, the operand's is kept. -/
theorem unary_step (m : (ℓ : Loc nD τ sig) → Buf (Elt F) ℓ) (x y : Ref sig .tc) (hn : x ≠ y) (f : x.ty.Contents (Elt F) → y.ty.Contents (Elt F)) (hx hy) (X : Buf (Elt F) ((SparseCore.T d).loc x))
    (Y : Buf (Elt F) ((SparseCore.T d).loc y)) {Q : PUnit → sProp 𝕄} :
    iprop((boundary (SparseCore.T d) ∗ ((SparseCore.T d).loc x ↦{fullShare} X) ∗ ((SparseCore.T d).loc y ↦{fullShare} Y))
        ∗ ((boundary (SparseCore.T d) ∗ ((SparseCore.T d).loc x ↦{fullShare} X) ∗ ((SparseCore.T d).loc y ↦{fullShare} f X)) -∗ Q ⟨⟩))
      ⊢ wp frame (wpE ((K (F := F)).defs (D (F := F))) 𝒱 (SparseCore.T d) none) Set.univ (hlo rfl (StableHlo.unary x y f hx hy) fun _ => .ret ⟨⟩) Q := by
  have hd : (Proc.devRef .tc x : DevRef τ sig) ≠ Proc.devRef .tc y := StableHlo.devRef_ne_of_ne hn
  let V : Valuation τ sig (Elt F) := Function.update (Function.update (fun b => m (d, b)) (Proc.devRef .tc x) X) (Proc.devRef .tc y) Y
  have hVx : V (Proc.devRef .tc x) = X := (Function.update_of_ne hd _ _).trans (Function.update_self _ _ _)
  have hVy : V (Proc.devRef .tc y) = Y := Function.update_self _ _ _
  have hh (W : Valuation τ sig (Elt F)) : (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold held
    rw [SparseCore.bigSep_insert' (by rw [Finset.mem_singleton]; exact hd), bigSep_singleton]
  have h1 := hh V
  have h2 := hh ((StableHlo.unary (τ := τ) x y f hx hy).result V)
  rw [hVx, hVy] at h1
  rw [StableHlo.unary_result, (StableHlo.unary (τ := τ) x y f hx hy).result_of_not_mem V (b := Proc.devRef .tc x) (fun h => hd (Finset.mem_singleton.mp h)), hVx] at h2
  rw [← h1, ← h2]
  iintro ⟨H, Hk⟩
  iapply (wp_hlo_within 𝒱 (SparseCore.T d) none Set.univ (op := StableHlo.unary x y f hx hy) (S := {Proc.devRef .tc x, Proc.devRef .tc y}) (Finset.Subset.refl _) (V := V)) $$ [H]
  · iexact H
  iintro H
  rw [wp_ret]; imodintro
  iapply Hk
  iexact H

/-- The ghost state of the TensorCore call, as the launch deals it. -/
def regGhost (d : Dev nD) : sProp 𝕄 :=
  iprop(Pipeline.cellsGhost (Pipeline.pin (pcfgs (F := F)) adm) EP 0 d ∗ Pipeline.toksInit (Pipeline.pin (pcfgs (F := F)) adm) EP 0 d)

/-- The TensorCore call. -/
theorem region_step [∀ e, Nonempty (Elt F e)] (X : ∀ d, Buf (Elt F) (xLoc d)) (Y : ∀ d, Buf (Elt F) (obLoc d)) {Q : PUnit → sProp 𝕄} :
    iprop((boundary (SparseCore.T d) ∗ tcHas d (X d) (Y d) ∗ levAts (K (F := F)).L (K (F := F)).lev ∗ regGhost d)
        ∗ ((boundary (SparseCore.T d) ∗ tcHas d (X d) (obG (X d))) -∗ Q ⟨⟩))
      ⊢ wp frame (wpE ((K (F := F)).defs (D (F := F))) 𝒱 (SparseCore.T d) none) Set.univ (Prog.lift (.customCall (SparseCore.inner (Pipeline.entry 0)) ())) Q := by
  have e : (Prog.lift (.customCall (SparseCore.inner (Pipeline.entry 0)) ()) : Prog (TpuEff nD τ sig (Elt F) (SparseCore.Sig (ΛP (F := F)) 1) .tc) PUnit)
      = SparseCore.liftProg (.op (.customCall (Pipeline.entry (0 : Fin 1)) ()) fun u => .ret u) := rfl
  rw [e]
  have h1 := (K (F := F)).wp_liftProg (D (F := F)) 𝒱 (SparseCore.T d) Set.univ none (.op (.customCall (Pipeline.entry (0 : Fin 1)) ()) fun u => .ret u) Q
  have h2 := Pipeline.RegionSeg.wp (pcfgs (F := F)) adm (dats X Y) none cellOf_inj EP defs₀ 𝒱₀ (K (F := F)).L (K (F := F)).lev (reg X Y) d none (fun _ h => nomatch h) (fun u => .ret u) Q
  rw [show (reg X Y).pre d = tcHas d (X d) (Y d) from rfl, show (reg X Y).post d = tcHas d (X d) (obG (X d)) from rfl] at h2
  refine BIBase.Entails.trans ?_ (h2.trans h1)
  unfold regGhost
  iintro ⟨⟨Hb, Hh, Hl, Hg, Ht⟩, Hk⟩
  isplitl [Hk]
  · iintro H
    rw [wp_ret]; imodintro
    iapply Hk
    iexact H
  isplitl [Hb]; · iexact Hb
  isplitl [Hh]; · iexact Hh
  isplitl [Hl]; · iexact Hl
  isplitl [Hg]; · iexact Hg
  iexact Ht

/-- The SparseCore call: the transposed argument is kept, the three results hold what is computed from it. -/
theorem call_step (A : ∀ d, Arrays F d) (κ : GSem nD τ sig → ℕ) {Q : PUnit → sProp 𝕄} :
    iprop(((K (F := F)).ctx EH (P A fun d => done d (A d)) κ ∗ (K (F := F)).tcSt EH d 0
          ∗ (xLoc d ↦{fullShare} (A d).x) ∗ (krLoc d ↦{fullShare} (A d).kr) ∗ (stLoc d ↦{fullShare} (A d).st) ∗ (kcLoc d ↦{fullShare} (A d).kc))
        ∗ (((K (F := F)).tcSt EH d 1 ∗ (xLoc d ↦{fullShare} (A d).x) ∗ (krLoc d ↦{fullShare} krG (A d).x) ∗ (stLoc d ↦{fullShare} cvG (A d).x 0)
            ∗ (kcLoc d ↦{fullShare} cvG (A d).x 5)) -∗ Q ⟨⟩))
      ⊢ wp frame (wpE ((K (F := F)).defs (D (F := F))) 𝒱 (SparseCore.T d) none) Set.univ ((K (F := F)).run d 0) Q := by
  have hst : (bigSep Finset.univ fun c : Fin ((K (F := F)).nCore 0) => (P A fun d => done d (A d)).st 0 d c)
      = bigSep Finset.univ fun c : Fin 2 => coreOps d c (A d) := rfl
  have hdn : (bigSep Finset.univ fun c : Fin ((K (F := F)).nCore 0) => (P A fun d => done d (A d)).dn 0 d c)
      = bigSep Finset.univ fun c : Fin 2 => coreOps d c (done d (A d)) := rfl
  rw [operands] at hst hdn
  iintro ⟨⟨#Hctx, Hst, Hx, Hr⟩, Hk⟩
  ihave Hx' := (pointsTo_toks_split fullShare 2) $$ Hx
  icases Hx' with ⟨Hd, Hx⟩
  iapply ((K (F := F)).wp_run (D (F := F)) 𝒱 (EH := EH) (P := P A fun d => done d (A d)) κ d 0) $$ [Hst Hd Hx Hr Hk]
  isplitr; · iexact Hctx
  isplitl [Hst]; · iexact Hst
  isplitl [Hx Hr]
  · rw [hst]
    isplitl [Hx]; · iexact Hx
    iexact Hr
  iintro ⟨Hst, Hdn⟩
  ihave Hdn' := (Entails.of_eq hdn) $$ Hdn
  icases Hdn' with ⟨Hx, Hr⟩
  ihave Hx' := (pointsTo_toks_join fullShare 2) $$ [Hd Hx]
  · isplitl [Hd]; · iexact Hd
    iexact Hx
  iapply Hk
  isplitl [Hst]; · iexact Hst
  isplitl [Hx']; · iexact Hx'
  iexact Hr

/-- After the call the core owes nothing: its account goes to the TensorCore call and is put back. -/
theorem owes_out : ((K (F := F)).tcSt EH d 1 : sProp 𝕄)
    ⊢ iprop((∃ W, ⌜(K (F := F)).WBelow (SparseCore.T d) W (8 * 1)⌝ ∗ owes (SparseCore.T d) 0 W)
        ∗ ((∃ W, ⌜(K (F := F)).WBelow (SparseCore.T d) W (8 * 1)⌝ ∗ owes (SparseCore.T d) 0 W) -∗ (K (F := F)).tcSt EH d 1)) := by
  unfold SparseCore.Cfg.tcSt
  rw [(K (F := F)).Otc_end d (le_refl 1)]
  iintro ⟨HO, Hr⟩
  isplitl [HO]; · iexact HO
  iintro HO
  isplitl [HO]; · iexact HO
  iexact Hr

end Steps

end Cert.Proof.Sc

end
-- ==== Proof.Main.lean ====
/-
  The run of the program: from any memory it ends, the argument kept, each result at its value, every semaphore counter at zero.
-/
module

public import proofs.«01_k».proof.Proof.Steps

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay ownSems0 ownBufs mem_ownCells ownCells ownRefs)
open Idealize.ShloMosaic.Transfers (MayWaits shareTok shareDrop pointsTo_toks_split pointsTo_toks_join)
open Idealize.ShloMosaic.Pipeline (Dat Cfg Window BodyObligation RegionSeg)
open Idealize.ShloMosaic.TcCoe
open Idealize.ShloMosaic.StableHlo (held wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

section Main

variable [FloatOps F] (m : (ℓ : Loc nD τ sig) → Buf (Elt F) ℓ) (ρ : Dev nD → PrngReg)

/-! ## The values -/

/-- The argument's place in a device's memory, and the four results'. -/
abbrev argLoc (d : Dev nD) : Loc nD τ sig := (SparseCore.T d).loc main_arg0
abbrev r0Loc (d : Dev nD) : Loc nD τ sig := (SparseCore.T d).loc main_v3
abbrev r1Loc (d : Dev nD) : Loc nD τ sig := (SparseCore.T d).loc main_v4
abbrev r2Loc (d : Dev nD) : Loc nD τ sig := (SparseCore.T d).loc main_v5
abbrev r3Loc (d : Dev nD) : Loc nD τ sig := (SparseCore.T d).loc main_v6

/-- The transposed argument. -/
def xT (d : Dev nD) : S9x200x16384.Idx → F .f32 := transpose S9x200x16384 [2, 1, 0] (m (argLoc d)) transposes_S16384x200x9_S9x200x16384_2_1_0

/-- The four results. -/
def r0 (d : Dev nD) : S16384x200x1.Idx → BitVec 32 := transpose S16384x200x1 [2, 0, 1] (cvG (xT m d) 0) transposes_S200x1x16384_S16384x200x1_2_0_1
def r1 (d : Dev nD) : S16384x200x4.Idx → F .f32 := transpose S16384x200x4 [2, 0, 1] (krG (xT m d)) transposes_S200x4x16384_S16384x200x4_2_0_1
def r2 (d : Dev nD) : S16384x200x1.Idx → BitVec 32 := transpose S16384x200x1 [2, 0, 1] (cvG (xT m d) 5) transposes_S200x1x16384_S16384x200x1_2_0_1
def r3 (d : Dev nD) : S16384x200x3.Idx → F .f32 := transpose S16384x200x3 [2, 1, 0] (obG (xT m d)) transposes_S3x200x16384_S16384x200x3_2_1_0

/-- The arrays the SparseCore call takes. -/
def taken (d : Dev nD) : Arrays F d := ⟨xT m d, m (stLoc d), m (krLoc d), m (kcLoc d)⟩

abbrev PP : (K (F := F)).Pay (nD := nD) (Val := Elt F) (Name := ℕ) (U := UU) := P (taken m) fun d => done d (taken m d)

/-! ## The program on a TensorCore -/

theorem unscopedBufs_eq (d : Dev nD) (W : (b : Ref sig .tc) → Buf (Elt F) ((d.tc : Thread nD τ).loc b)) :
    (unscopedBufs d W : sProp 𝕄) = iprop((argLoc d ↦{fullShare} W main_arg0) ∗ (xLoc d ↦{fullShare} W main_v0) ∗ (stLoc d ↦{fullShare} W main_v1_0)
      ∗ (krLoc d ↦{fullShare} W main_v1_1) ∗ (kcLoc d ↦{fullShare} W main_v1_2) ∗ (obLoc d ↦{fullShare} W main_v2) ∗ (r0Loc d ↦{fullShare} W main_v3)
      ∗ (r1Loc d ↦{fullShare} W main_v4) ∗ (r2Loc d ↦{fullShare} W main_v5) ∗ (r3Loc d ↦{fullShare} W main_v6)) := by
  unfold unscopedBufs
  rw [show (Finset.univ.filter fun b : Ref sig .tc => ¬ b.isScoped) = {main_arg0, main_v0, main_v1_0, main_v1_1, main_v1_2, main_v2, main_v3, main_v4, main_v5, main_v6} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the program leaves: the argument as it was, the results at their values. -/
abbrev FIN (d : Dev nD) : sProp 𝕄 :=
  iprop((argLoc d ↦{fullShare} m (argLoc d)) ∗ (r0Loc d ↦{fullShare} r0 m d) ∗ (r1Loc d ↦{fullShare} r1 m d) ∗ (r2Loc d ↦{fullShare} r2 m d)
    ∗ (r3Loc d ↦{fullShare} r3 m d))

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ regGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Hs, Hk, Hc, Ho, H0, H1, H2, H3⟩, Hts, -⟩, HG⟩
  iapply (unary_step d m main_arg0 main_v0 (by decide) _ _ _ (m (argLoc d)) (m (xLoc d)))
  isplitl [Hb Ha Hx]
  · isplitl [Hb]; · iexact Hb
    isplitl [Ha]; · iexact Ha
    iexact Hx
  iintro ⟨Hb, Ha, Hx⟩
  iapply (call_step d (taken m) κ)
  isplitl [Hst Hx Hs Hk Hc]
  · isplitr; · iexact Hctx
    isplitl [Hst]; · iexact Hst
    isplitl [Hx]; · iexact Hx
    isplitl [Hk]; · iexact Hk
    isplitl [Hs]; · iexact Hs
    iexact Hc
  iintro ⟨Hst, Hx, Hk, Hs, Hc⟩
  ihave Hst' := (owes_out d) $$ Hst
  icases Hst' with ⟨HO, Hst⟩
  iapply (region_step d (fun d => xT m d) (fun d => m (obLoc d)))
  isplitl [Hb Hx Ho HO HG]
  · isplitl [Hb]; · iexact Hb
    isplitl [Hx Ho HO]
    · unfold tcHas
      isplitl [Hx]; · iexact Hx
      isplitl [Ho]; · iexact Ho
      iexact HO
    isplitr
    · iapply ((K (F := F)).ctx_levAts κ); iexact Hctx
    iexact HG
  unfold tcHas
  iintro ⟨Hb, Hx, Ho, HO⟩
  ihave Hst' := Hst $$ HO
  iapply (unary_step d m main_v1_0 main_v3 (by decide) _ _ _ (cvG (xT m d) 0) (m (r0Loc d)))
  isplitl [Hb Hs H0]
  · isplitl [Hb]; · iexact Hb
    isplitl [Hs]; · iexact Hs
    iexact H0
  iintro ⟨Hb, Hs, H0⟩
  iapply (unary_step d m main_v1_1 main_v4 (by decide) _ _ _ (krG (xT m d)) (m (r1Loc d)))
  isplitl [Hb Hk H1]
  · isplitl [Hb]; · iexact Hb
    isplitl [Hk]; · iexact Hk
    iexact H1
  iintro ⟨Hb, Hk, H1⟩
  iapply (unary_step d m main_v1_2 main_v5 (by decide) _ _ _ (cvG (xT m d) 5) (m (r2Loc d)))
  isplitl [Hb Hc H2]
  · isplitl [Hb]; · iexact Hb
    isplitl [Hc]; · iexact Hc
    iexact H2
  iintro ⟨Hb, Hc, H2⟩
  iapply (unary_step d m main_v2 main_v6 (by decide) _ _ _ (obG (xT m d)) (m (r3Loc d)))
  isplitl [Hb Ho H3]
  · isplitl [Hb]; · iexact Hb
    isplitl [Ho]; · iexact Ho
    iexact H3
  iintro ⟨Hb, Ho, H3⟩
  imodintro
  isplitl [Hst']; · iexact Hst'
  isplitr [Hb Hts]
  · isplitl [Ha]; · iexact Ha
    isplitl [H0]; · iexact H0
    isplitl [H1]; · iexact H1
    isplitl [H2]; · iexact H2
    iexact H3
  isplitl [Hb]; · iexact Hb
  iexact Hts

/-! ## The launch -/

/-- The ghost state of the launch: the handshakes' rounds, and the TensorCore call's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem x_emp : (bigSep Finset.univ fun thr : Thread nD τ => bigSep Finset.univ fun q : Fin 1 => (PP m).x q thr) = (iprop(emp) : sProp 𝕄) := by
  rw [show (fun thr : Thread nD τ => bigSep Finset.univ fun q : Fin 1 => (PP m).x q thr) = fun _ => (iprop(emp) : sProp 𝕄) from
    funext fun thr => bigSep_univ_of_subsingleton (0 : Fin 1)]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => regGhost d)
        ∗ bigSep Finset.univ fun thr : Thread nD τ => bigSep Finset.univ fun q : Fin 1 => (PP m).x q thr) := by
  have hg : (bigSep Finset.univ fun d : Dev nD => (regGhost (F := F) d : sProp 𝕄))
      = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c))) := by
    rw [← bigSep_sep']
    refine bigSep_congr fun d _ => ?_
    rw [bigSep_univ_of_subsingleton (0 : Fin 1), bigSep_univ_of_subsingleton (0 : Fin 1)]
    rfl
  rw [x_emp, hg]
  unfold u₀
  iintro Hu
  ihave H := (ownU_pair _ _) $$ Hu
  icases H with ⟨HH, HK⟩
  ihave H := (own_pair_emb _ _ _) $$ HK
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · isplitl [Hg]; · iexact Hg
    iexact Ht
  iempintro

/-! ## The final memory -/

/-- What is read of the final memory of a device. -/
def fq (d : Dev nD) (s' : Phys nD τ sig (Elt F)) : Prop :=
  s'.mem.mem (argLoc d) = m (argLoc d) ∧ s'.mem.mem (r0Loc d) = r0 m d ∧ s'.mem.mem (r1Loc d) = r1 m d ∧ s'.mem.mem (r2Loc d) = r2 m d ∧ s'.mem.mem (r3Loc d) = r3 m d

/-- A whole buffer held is what the memory holds there. -/
theorem read (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI]; · iexact HSI
    iexact Hx
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ha, H0, H1, H2, H3⟩, HSI⟩
  ihave H := (read (argLoc d) _ s') $$ [HSI Ha]
  · isplitl [Ha]; · iexact Ha
    iexact HSI
  icases H with ⟨%ha, HSI⟩
  ihave H := (read (r0Loc d) _ s') $$ [HSI H0]
  · isplitl [H0]; · iexact H0
    iexact HSI
  icases H with ⟨%h0, HSI⟩
  ihave H := (read (r1Loc d) _ s') $$ [HSI H1]
  · isplitl [H1]; · iexact H1
    iexact HSI
  icases H with ⟨%h1, HSI⟩
  ihave H := (read (r2Loc d) _ s') $$ [HSI H2]
  · isplitl [H2]; · iexact H2
    iexact HSI
  icases H with ⟨%h2, HSI⟩
  ihave H := (read (r3Loc d) _ s') $$ [HSI H3]
  · isplitl [H3]; · iexact H3
    iexact HSI
  icases H with ⟨%h3, -⟩
  ipureintro; exact ⟨ha, h0, h1, h2, h3⟩

/-! ## The run -/

/-- The end of a run. -/
def QC : PUnit × MemSt nD τ sig (Elt F) → Prop := fun r =>
  (∀ d : Dev nD, r.2.mem (argLoc d) = m (argLoc d) ∧ r.2.mem (r0Loc d) = r0 m d ∧ r.2.mem (r1Loc d) = r1 m d ∧ r.2.mem (r2Loc d) = r2 m d ∧ r.2.mem (r3Loc d) = r3 m d)
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (taken m))
    (fun q _ => match q with | 0 => SparseCore.Cfg.VecSplit.of_plain (vecSplit (taken m) (fun d => done d (taken m d)) fun _ => rfl))
    m ρ main (fun d => regGhost d) (FIN m) (u₀ (F := F)) (sep_elim_left.trans (hu₀ m)) (hmain m ρ) (fq m) (hfin m) (QC m) (fun _ h hz => ⟨h, hz⟩)

end Main

end Cert.Proof.Sc

end
-- ==== Proof.Take.lean ====
/-
  The reference's lookups: the indices are constants within range, so each result is the lanes of the argument that they name.
-/
module

public import proofs.«01_k».proof.Proof.Gen.ReferenceIdeal.Run

@[expose] public section

noncomputable section

namespace Cert.Proof.Ref

open Cert.ReferenceIdeal Cert.ReferenceIdeal.Gen
open Idealize.ShloMosaic Idealize.ShloMosaic.StableHlo

variable {F : FTy → Type} [FloatOps F]

/-- The index of three coordinates. -/
def at3 (a : Fin 16384) (b : Fin 200) (p : Fin 9) : S16384x200x9.Idx := fun
  | 0 => a
  | 1 => b
  | 2 => p
  | ⟨_ + 3, h⟩ => absurd h (Nat.not_lt.2 (Nat.le_add_left _ _))

/-- A lookup of `n` lanes. -/
abbrev gd (n : ℕ) (wf : GatherDims.WF S16384x200x9 ⟨2, ![n, 1]⟩ ⟨3, ![16384, 200, n]⟩ [0, 1] [2] [] [2] [] 1 ![16384, 200, 1]) :
    GatherDims S16384x200x9 ⟨2, ![n, 1]⟩ ⟨3, ![16384, 200, n]⟩ where
  offsetDims := [0, 1]
  collapsedSliceDims := [2]
  operandBatchingDims := []
  startIndicesBatchingDims := []
  startIndexMap := [2]
  indexVectorDim := 1
  sliceSizes := ![16384, 200, 1]
  wf := wf

/-- Where the lookup reads: the lane that the index names, the other two coordinates kept. -/
theorem gd_index (n : ℕ) (wf) (I : IVec ⟨2, ![n, 1]⟩ 32) (p : Fin n → Fin 9) (hI : ∀ i : (⟨2, ![n, 1]⟩ : Shape).Idx, (I i).toInt = ((p (i 0)).val : ℤ))
    (j : (⟨3, ![16384, 200, n]⟩ : Shape).Idx) : (gd n wf).operandIdx j I = at3 (j 0) (j 1) (p (j 2)) := by
  funext a
  refine Fin.ext ?_
  match a with
  | 0 =>
    show (gd n wf).start j I 0 + (gd n wf).batchCoord j 0 + (gd n wf).offCoord j 0 = (j 0).val
    rw [show (gd n wf).start j I 0 = 0 from rfl, show (gd n wf).batchCoord j 0 = 0 from rfl, show (gd n wf).offCoord j 0 = (j 0).val from rfl]
    omega
  | 1 =>
    show (gd n wf).start j I 1 + (gd n wf).batchCoord j 1 + (gd n wf).offCoord j 1 = (j 1).val
    rw [show (gd n wf).start j I 1 = 0 from rfl, show (gd n wf).batchCoord j 1 = 0 from rfl, show (gd n wf).offCoord j 1 = (j 1).val from rfl]
    omega
  | 2 =>
    show (gd n wf).start j I 2 + (gd n wf).batchCoord j 2 + (gd n wf).offCoord j 2 = (p (j 2)).val
    rw [show (gd n wf).batchCoord j 2 = 0 from rfl, show (gd n wf).offCoord j 2 = 0 from rfl]
    have h0 : (gd n wf).start j I 2 = min (I ((gd n wf).siIdx j ⟨0, Nat.one_pos⟩)).toInt.toNat 8 := rfl
    have h1 : ((gd n wf).siIdx j ⟨0, Nat.one_pos⟩) 0 = j 2 := rfl
    rw [h0, hI, h1]
    have h2 := (p (j 2)).isLt
    omega

/-- A conjunction of ones is one. -/
theorem and_ones {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  induction (List.finRange s.numel).filter fun n => h.drop (s.rowMajor.symm n) = j with
  | nil => rfl
  | cons n l ih => rw [List.foldl_cons, hx, show IntOp.andi 1#1 1#1 = 1#1 from rfl, ih]

/-- A lookup whose indices are all in range. -/
theorem take_apply (n : ℕ) (wf) (X : S16384x200x9.Idx → F .f32) (I : IVec ⟨2, ![n, 1]⟩ 32) (p : Fin n → Fin 9)
    (hI : ∀ i : (⟨2, ![n, 1]⟩ : Shape).Idx, (I i).toInt = ((p (i 0)).val : ℤ)) (M : IVec ⟨3, ![16384, 200, n]⟩ 1) (hM : ∀ j, M j = 1#1)
    (Z : (⟨3, ![16384, 200, n]⟩ : Shape).Idx → F .f32) (j : (⟨3, ![16384, 200, n]⟩ : Shape).Idx) :
    select M (Host.gather (gd n wf) X I) Z j = X (at3 (j 0) (j 1) (p (j 2))) := by
  show Scalar.select (M j) (X ((gd n wf).operandIdx j I)) (Z j) = _
  rw [hM, gd_index n wf I p hI]
  rfl

end Cert.Proof.Ref

end
-- ==== Proof.Reference.lean ====
/-
  The run of the reference: its four results are lanes of the argument, two of them converted.
-/
module

public import proofs.«01_k».proof.Proof.Take

@[expose] public section

noncomputable section

namespace Cert.Proof.Ref

open Cert.ReferenceIdeal Cert.ReferenceIdeal.Gen
open Idealize.ShloMosaic Idealize.ShloMosaic.StableHlo Idealize.ShloMosaic.TcCoe Idealize.SL.Sem

variable {F : FTy → Type} [FloatOps F]

/-! ## A lookup -/

theorem word_int : ∀ q : Fin 9, (BitVec.ofNat 32 q.val).toInt = (q.val : ℤ) := by decide
theorem word_in : ∀ q : Fin 9, IntOp.andi (IntOp.cmpi .sge (BitVec.ofNat 32 q.val) 0#32) (IntOp.cmpi .sle (BitVec.ofNat 32 q.val) 8#32) = 1#1 := by decide

/-- A lookup at the lanes `p`, with the test that the indices are in range, which they are. -/
theorem lookup (n : ℕ) (wf) (X : S16384x200x9.Idx → F .f32) (I lower upper : IVec ⟨2, ![n, 1]⟩ 32) (p : Fin n → Fin 9)
    (hI : ∀ i : (⟨2, ![n, 1]⟩ : Shape).Idx, I i = BitVec.ofNat 32 (p (i 0)).val) (hl : ∀ i, lower i = 0#32) (hu : ∀ i, upper i = 8#32)
    (hr : (⟨2, ![n, 1]⟩ : Shape).ReducesTo [1] ⟨1, ![n]⟩) (h0 : 0 < S_.numel) (hb : (⟨1, ![n]⟩ : Shape).BroadcastsInDim ⟨3, ![16384, 200, n]⟩ ![2])
    (Z : (⟨3, ![16384, 200, n]⟩ : Shape).Idx → F .f32) (j : (⟨3, ![16384, 200, n]⟩ : Shape).Idx) :
    select (broadcastInDim ⟨3, ![16384, 200, n]⟩ ![2] hb (Host.reduce IntOp.andi (andi (cmpi .sge I lower) (cmpi .sle I upper)) (constantI S_ 1 1#1) hr h0))
      (Host.gather (gd n wf) X I) Z j = X (at3 (j 0) (j 1) (p (j 2))) :=
  take_apply n wf X I p (fun i => by rw [hI, word_int]) _
    (fun j => and_ones _ _ hr h0
      (fun i => by
        show IntOp.andi (IntOp.cmpi .sge (I i) (lower i)) (IntOp.cmpi .sle (I i) (upper i)) = 1#1
        rw [hI, hl, hu]; exact word_in _)
      (fun _ => rfl) _) Z j

/-- The indices as a lookup takes them: a negative one counts from the end. -/
abbrev norm {n : ℕ} (hb0 : S_.BroadcastsInDim ⟨1, ![n]⟩ ![]) (hb1 : (⟨1, ![n]⟩ : Shape).BroadcastsInDim ⟨2, ![n, 1]⟩ ![0]) (L : IVec ⟨1, ![n]⟩ 32) : IVec ⟨2, ![n, 1]⟩ 32 :=
  broadcastInDim ⟨2, ![n, 1]⟩ ![0] hb1 (select (cmpi .slt L (broadcastInDim ⟨1, ![n]⟩ ![] hb0 (constantI S_ 32 0#32)))
    (addi L (broadcastInDim ⟨1, ![n]⟩ ![] hb0 (constantI S_ 32 9#32))) L)

/-! ## The four lists of lanes -/

theorem lanes0 : ∀ i : S1x1.Idx, norm bcast_S_S1 bcast_S1_S1x1_0 (constantI S1 32 0#32) i = BitVec.ofNat 32 ((fun _ => 0 : Fin 1 → Fin 9) (i 0)).val := by decide +kernel
theorem lanes1 : ∀ i : S4x1.Idx, norm bcast_S_S4 bcast_S4_S4x1_0 (fun i => lit0 (S4.rowMajor i)) i = BitVec.ofNat 32 ((fun k => ⟨1 + k.val, by omega⟩ : Fin 4 → Fin 9) (i 0)).val := by decide +kernel
theorem lanes2 : ∀ i : S1x1.Idx, norm bcast_S_S1 bcast_S1_S1x1_0 (constantI S1 32 5#32) i = BitVec.ofNat 32 ((fun _ => 5 : Fin 1 → Fin 9) (i 0)).val := by decide +kernel
theorem lanes3 : ∀ i : S3x1.Idx, norm bcast_S_S3 bcast_S3_S3x1_0 (fun i => lit1 (S3.rowMajor i)) i = BitVec.ofNat 32 ((fun k => ⟨6 + k.val, by omega⟩ : Fin 3 → Fin 9) (i 0)).val := by decide +kernel

/-! ## The run -/

/-- The end of a run, of the argument `X`. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      (∀ j : S16384x200x1.Idx, r.2.mem ((c.tc : Thread nD τ).loc main_v1) j = FloatOps.fptosi 32 (m ((c.tc : Thread nD τ).loc main_arg0) (at3 (j 0) (j 1) 0)))
      ∧ (∀ j : S16384x200x4.Idx, r.2.mem ((c.tc : Thread nD τ).loc main_v2) j
          = m ((c.tc : Thread nD τ).loc main_arg0) (at3 (j 0) (j 1) ⟨1 + (j 2).val, by have h : (j 2).val < 4 := (j 2).isLt; omega⟩))
      ∧ (∀ j : S16384x200x1.Idx, r.2.mem ((c.tc : Thread nD τ).loc main_v4) j = FloatOps.fptosi 32 (m ((c.tc : Thread nD τ).loc main_arg0) (at3 (j 0) (j 1) 5)))
      ∧ (∀ j : S16384x200x3.Idx, r.2.mem ((c.tc : Thread nD τ).loc main_v5) j
          = m ((c.tc : Thread nD τ).loc main_arg0) (at3 (j 0) (j 1) ⟨6 + (j 2).val, by have h : (j 2).val < 3 := (j 2).isLt; omega⟩))
      ∧ r.2.mem ((c.tc : Thread nD τ).loc main_arg0) = m ((c.tc : Thread nD τ).loc main_arg0) :=
  (θ_run defs _ _).mono (fun _ h c => by
    obtain ⟨h0, h1, h2, h3, ha⟩ := h c
    refine ⟨fun j => ?_, fun j => ?_, fun j => ?_, fun j => ?_, ha⟩
    · refine (congrFun h0 j).trans (congrArg (FloatOps.fptosi (F := F) 32) (lookup 1 _ _ _ _ _ (fun _ => 0) lanes0 ?_ ?_ _ _ _ _ j)) <;> exact fun _ => rfl
    · refine (congrFun h1 j).trans (lookup 4 _ _ _ _ _ (fun k => ⟨1 + k.val, by omega⟩) lanes1 ?_ ?_ _ _ _ _ j) <;> exact fun _ => rfl
    · refine (congrFun h2 j).trans (congrArg (FloatOps.fptosi (F := F) 32) (lookup 1 _ _ _ _ _ (fun _ => 5) lanes2 ?_ ?_ _ _ _ _ j)) <;> exact fun _ => rfl
    · refine (congrFun h3 j).trans (lookup 3 _ _ _ _ _ (fun k => ⟨6 + k.val, by omega⟩) lanes3 ?_ ?_ _ _ _ _ j) <;> exact fun _ => rfl)
    (Value.run m ρ)

end Cert.Proof.Ref

end
-- ==== Proof.Agree.lean ====
/-
  The kernel's four results in the reference's words: lanes of the argument, two of them converted.
-/
module

public import proofs.«01_k».proof.Proof.Main
public import proofs.«01_k».proof.Proof.Reference

@[expose] public section

noncomputable section

namespace Cert.Proof.Sc

open Cert.KernelIdeal Cert.KernelIdeal.Gen
open Idealize.ShloMosaic Idealize.SL.Sem
open Cert.Proof.Ref (at3)

variable {F : FTy → Type} [FloatOps F] (m : (ℓ : Loc nD τ sig) → Buf (Elt F) ℓ) (d : Dev nD)

/-- The transposed argument, read at a place whose coordinates are `p`, `b`, `a`. -/
theorem xT_at (x : S9x200x16384.Idx) (a : Fin 16384) (b : Fin 200) (p : Fin 9) (h0 : (x 0).val = p.val) (h1 : (x 1).val = b.val) (h2 : (x 2).val = a.val) :
    xT m d x = m (argLoc d) (at3 a b p) :=
  congrArg (m (argLoc d)) (funext fun k => Fin.ext (by
    match k with
    | ⟨0, _⟩ => exact h2
    | ⟨1, _⟩ => exact h1
    | ⟨2, _⟩ => exact h0))

theorem r0_at (j : S16384x200x1.Idx) : r0 m d j = FloatOps.fptosi 32 (m (argLoc d) (at3 (j 0) (j 1) 0)) :=
  congrArg (FloatOps.fptosi (F := F) 32) (xT_at m d _ (j 0) (j 1) 0 rfl rfl rfl)

theorem r1_at (j : S16384x200x4.Idx) :
    r1 m d j = m (argLoc d) (at3 (j 0) (j 1) ⟨1 + (j 2).val, by have h : (j 2).val < 4 := (j 2).isLt; omega⟩) :=
  xT_at m d _ (j 0) (j 1) _ rfl rfl rfl

theorem r2_at (j : S16384x200x1.Idx) : r2 m d j = FloatOps.fptosi 32 (m (argLoc d) (at3 (j 0) (j 1) 5)) :=
  congrArg (FloatOps.fptosi (F := F) 32) (xT_at m d _ (j 0) (j 1) 5 rfl rfl rfl)

theorem r3_at (j : S16384x200x3.Idx) :
    r3 m d j = m (argLoc d) (at3 (j 0) (j 1) ⟨6 + (j 2).val, by have h : (j 2).val < 3 := (j 2).isLt; omega⟩) :=
  xT_at m d _ (j 0) (j 1) _ rfl rfl rfl

end Cert.Proof.Sc

end
-- ==== Proof.Same.lean ====
/-
  The program and its ideal form have the same text, so over float words, too, they are one program.
-/
module

public import proofs.«01_k».proof.Proof.Gen.Kernel
public import proofs.«01_k».proof.Proof.Gen.KernelIdeal
public import Idealize.ShloMosaic.PureOps.BitExact

@[expose] public section

noncomputable section

namespace Cert.Proof

open Idealize.ShloMosaic Idealize.SL.Sem

/-- The two tables of kernel bodies. -/
theorem bodies_same : Cert.Kernel.defs₀ (F := Bits) = Cert.KernelIdeal.defs₀ (F := Bits) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

/-- The two tables of everything that is called. -/
theorem defs_same : Cert.Kernel.defs (F := Bits) = Cert.KernelIdeal.defs (F := Bits) :=
  congrArg (fun D => (Cert.KernelIdeal.sc (F := Bits)).defs (Pipeline.defs Cert.KernelIdeal.pcfgs D)) bodies_same

/-- What the threads run. -/
theorem threads_same : Cert.Kernel.threads (F := Bits) = Cert.KernelIdeal.threads (F := Bits) := rfl

end Cert.Proof

end
-- ==== Proof.lean ====
/-
  The five claims, from the run of the kernel and the run of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Agree
public import proofs.«01_k».proof.Proof.Same

@[expose] public section

noncomputable section

namespace Cert.Proof

open Idealize.ShloMosaic Idealize.SL.Sem

/-- The kernel's run keeps its argument and leaves every semaphore counter at zero. -/
theorem frame_kernel : Cert.quiescent_Kernel := fun m ρ _ =>
  (congrArg (fun D => (θ_run D Cert.Kernel.threads ⟨m, fun _ => 0, ρ⟩) fun r =>
      (∀ c : Dev Cert.Kernel.nD, r.2.mem (c.tc.loc Cert.Kernel.main_arg0) = m (c.tc.loc Cert.Kernel.main_arg0)) ∧ r.2.sem = fun _ => 0) defs_same).mpr
    ((θ_run Cert.KernelIdeal.defs Cert.KernelIdeal.threads _).mono (fun _ h => ⟨fun c => (h.1 c).1, h.2⟩) (Sc.run_main (F := Bits) m ρ))

/-- So does the ideal kernel's. -/
theorem frame_ideal : Cert.quiescent_KernelIdeal := fun m ρ _ =>
  (θ_run Cert.KernelIdeal.defs _ _).mono (fun _ h => ⟨fun c => (h.1 c).1, h.2⟩) (Sc.run_main (F := Ideal) m ρ)

/-- So does the reference's. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Ref.run_main (F := Ideal) m ρ)

/-- From memories that agree on the argument, the ideal kernel and the reference end with the same four results. -/
theorem algebraic : Cert.algebraic_KernelIdeal_ReferenceIdeal := fun m ρ m' ρ' _ heq =>
  ⟨Sc.r0 m, Sc.r1 m, Sc.r2 m, Sc.r3 m,
    (θ_run Cert.KernelIdeal.defs _ _).mono
      (fun _ h c => by
        obtain ⟨ha, h0, h1, h2, h3⟩ := h.1 c
        exact ⟨h0, h1, h2, h3, ha⟩)
      (Sc.run_main (F := Ideal) m ρ),
    (θ_run Cert.ReferenceIdeal.defs _ _).mono
      (fun _ h c => by
        obtain ⟨h0, h1, h2, h3, ha⟩ := h c
        rw [heq c] at h0 h1 h2 h3
        exact ⟨funext fun j => (h0 j).trans (Sc.r0_at m c j).symm, funext fun j => (h1 j).trans (Sc.r1_at m c j).symm,
          funext fun j => (h2 j).trans (Sc.r2_at m c j).symm, funext fun j => (h3 j).trans (Sc.r3_at m c j).symm, ha⟩)
      (Ref.run_main (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
